-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_key_biases_zero [hPre_key_biases_zero : Cert.Pre_key_biases_zero.Facts] (m : (ℓ : Loc Cert.KernelIdeal.nD Cert.KernelIdeal.τ Cert.KernelIdeal.sig) → Buf (Elt Ideal) ℓ) : Prop :=
  ∀ c : Dev Cert.KernelIdeal.nD,
    (Cert.Pre_key_biases_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_key_biases_zero [hPre_key_biases_zero : Cert.Pre_key_biases_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_key_biases_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_key_biases_zero [hKernelIdeal : Cert.KernelIdeal.Facts] [hPre_key_biases_zero : Cert.Pre_key_biases_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_key_biases_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_key_biases_zero [hReferenceIdeal : Cert.ReferenceIdeal.Facts] [hPre_key_biases_zero : Cert.Pre_key_biases_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_key_biases_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_key_biases_zero [hKernelIdeal : Cert.KernelIdeal.Facts] [hReferenceIdeal : Cert.ReferenceIdeal.Facts] [hPre_key_biases_zero : Cert.Pre_key_biases_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_key_biases_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_key_biases_zero : Cert.Pre_key_biases_zero.Facts),
    quiescent_Kernel (hKernel := hKernel)
    ∧ quiescent_KernelIdeal (hKernelIdeal := hKernelIdeal)
    ∧ quiescent_KernelIdeal_pre_key_biases_zero (hKernelIdeal := hKernelIdeal) (hPre_key_biases_zero := hPre_key_biases_zero)
    ∧ quiescent_ReferenceIdeal (hReferenceIdeal := hReferenceIdeal)
    ∧ quiescent_ReferenceIdeal_pre_key_biases_zero (hReferenceIdeal := hReferenceIdeal) (hPre_key_biases_zero := hPre_key_biases_zero)
    ∧ preserves_Kernel_KernelIdeal
    ∧ algebraic_KernelIdeal_ReferenceIdeal_pre_key_biases_zero (hKernelIdeal := hKernelIdeal) (hReferenceIdeal := hReferenceIdeal) (hPre_key_biases_zero := hPre_key_biases_zero)
-- ==== Pre_key_biases_zero.lean ====
abbrev S32x128 : Shape := ⟨2, ![32, 128]⟩
abbrev S32x128x768 : Shape := ⟨3, ![32, 128, 768]⟩
abbrev S32x128x64x128 : Shape := ⟨4, ![32, 128, 64, 128]⟩
abbrev S32x128x64 : Shape := ⟨3, ![32, 128, 64]⟩
abbrev S128x128 : Shape := ⟨2, ![128, 128]⟩
abbrev S128 : Shape := ⟨1, ![128]⟩
abbrev S64x128 : Shape := ⟨2, ![64, 128]⟩
abbrev S64 : Shape := ⟨1, ![64]⟩
abbrev S128x768 : Shape := ⟨2, ![128, 768]⟩
abbrev S128x64 : Shape := ⟨2, ![128, 64]⟩
abbrev S768x128 : Shape := ⟨2, ![768, 128]⟩
abbrev S768 : Shape := ⟨1, ![768]⟩
abbrev S4096x64 : Shape := ⟨2, ![4096, 64]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : IVec S32x128 32) (main_arg1 : FVec F S32x128x768 .f32) (main_arg2 : FVec F S32x128x64x128 .f32) (main_arg3 : IVec S32x128x64 1) (main_arg4 : FVec F S128x128 .f32) (main_arg5 : FVec F S128 .f32) (main_arg6 : FVec F S64x128 .f32) (main_arg7 : FVec F S64 .f32) (main_arg8 : FVec F S128x768 .f32) (main_arg9 : FVec F S128 .f32) (main_arg10 : FVec F S64x128 .f32) (main_arg11 : FVec F S64 .f32) (main_arg12 : FVec F S128x64 .f32) (main_arg13 : FVec F S128 .f32) (main_arg14 : FVec F S768x128 .f32) (main_arg15 : FVec F S768 .f32) (main_arg16 : FVec F S4096x64 .f32) : IVec S_ 1 :=
  let main_cst : FVec F S_ .f32 := constant S_ .f32 0x00000000#32
  let main_v0 : FVec F S128 .f32 := broadcastInDim S128 ![] bcast_S_S128 main_cst
  let main_v1 : IVec S128 1 := cmpf .oeq main_arg5 main_v0
  let main_c : IVec S_ 1 := constantI S_ 1 1#1
  let main_v2 : IVec S_ 1 := (fun x v => Host.reduce IntOp.andi x v reducesTo_S128_S_d0 h_S_) main_v1 main_c
  let main_cst_0 : FVec F S_ .f32 := constant S_ .f32 0x00000000#32
  let main_v3 : FVec F S64 .f32 := broadcastInDim S64 ![] bcast_S_S64 main_cst_0
  let main_v4 : IVec S64 1 := cmpf .oeq main_arg7 main_v3
  let main_c_1 : IVec S_ 1 := constantI S_ 1 1#1
  let main_v5 : IVec S_ 1 := (fun x v => Host.reduce IntOp.andi x v reducesTo_S64_S_d0 h_S_) main_v4 main_c_1
  let main_v6 : IVec S_ 1 := andi main_v2 main_v5
  main_v6
-- ==== Kernel.lean ====
abbrev S32x128 : Shape := ⟨2, ![32, 128]⟩
abbrev S32x128x768 : Shape := ⟨3, ![32, 128, 768]⟩
abbrev S32x128x64x128 : Shape := ⟨4, ![32, 128, 64, 128]⟩
abbrev S32x128x64 : Shape := ⟨3, ![32, 128, 64]⟩
abbrev S128x128 : Shape := ⟨2, ![128, 128]⟩
abbrev S128 : Shape := ⟨1, ![128]⟩
abbrev S64x128 : Shape := ⟨2, ![64, 128]⟩
abbrev S64 : Shape := ⟨1, ![64]⟩
abbrev S128x768 : Shape := ⟨2, ![128, 768]⟩
abbrev S128x64 : Shape := ⟨2, ![128, 64]⟩
abbrev S768x128 : Shape := ⟨2, ![768, 128]⟩
abbrev S768 : Shape := ⟨1, ![768]⟩
abbrev S4096x64 : Shape := ⟨2, ![4096, 64]⟩
abbrev S262144x128 : Shape := ⟨2, ![262144, 128]⟩
abbrev S4096x768 : Shape := ⟨2, ![4096, 768]⟩
abbrev S4096x1 : Shape := ⟨2, ![4096, 1]⟩
abbrev S_ : Shape := ⟨0, ![]⟩
abbrev S1 : Shape := ⟨1, ![1]⟩
abbrev S1x128 : Shape := ⟨2, ![1, 128]⟩
abbrev S1x64 : Shape := ⟨2, ![1, 64]⟩
abbrev S1x768 : Shape := ⟨2, ![1, 768]⟩
abbrev S32768x128 : Shape := ⟨2, ![32768, 128]⟩
abbrev S512x768 : Shape := ⟨2, ![512, 768]⟩
abbrev S512x64 : Shape := ⟨2, ![512, 64]⟩
abbrev S512x1 : Shape := ⟨2, ![512, 1]⟩
abbrev S16384x128 : Shape := ⟨2, ![16384, 128]⟩
abbrev S16384x64 : Shape := ⟨2, ![16384, 64]⟩
abbrev S256x64x64 : Shape := ⟨3, ![256, 64, 64]⟩
abbrev S256x768 : Shape := ⟨2, ![256, 768]⟩
abbrev S256x128 : Shape := ⟨2, ![256, 128]⟩
abbrev S256x64 : Shape := ⟨2, ![256, 64]⟩
abbrev S256x1x64 : Shape := ⟨3, ![256, 1, 64]⟩
abbrev S256 : Shape := ⟨1, ![256]⟩
abbrev S256x1 : Shape := ⟨2, ![256, 1]⟩

abbrev nBuf : Space → Nat
  | .hbm => 36
  | .vmem => 30
  | .smem => 1
  | _ => 0

abbrev bufTy : (tb : Table) → Fin (tcTables nBuf tb) → BufTy
  | .hbm, ⟨0, _⟩ => ⟨S32x128, .i32⟩
  | .hbm, ⟨1, _⟩ => ⟨S32x128x768, .f32⟩
  | .hbm, ⟨2, _⟩ => ⟨S32x128x64x128, .f32⟩
  | .hbm, ⟨3, _⟩ => ⟨S32x128x64, .i1⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S128x768, .f32⟩
  | .hbm, ⟨9, _⟩ => ⟨S128, .f32⟩
  | .hbm, ⟨10, _⟩ => ⟨S64x128, .f32⟩
  | .hbm, ⟨11, _⟩ => ⟨S64, .f32⟩
  | .hbm, ⟨12, _⟩ => ⟨S128x64, .f32⟩
  | .hbm, ⟨13, _⟩ => ⟨S128, .f32⟩
  | .hbm, ⟨14, _⟩ => ⟨S768x128, .f32⟩
  | .hbm, ⟨15, _⟩ => ⟨S768, .f32⟩
  | .hbm, ⟨16, _⟩ => ⟨S4096x64, .f32⟩
  | .hbm, ⟨17, _⟩ => ⟨S262144x128, .f32⟩
  | .hbm, ⟨18, _⟩ => ⟨S4096x768, .f32⟩
  | .hbm, ⟨19, _⟩ => ⟨S4096x64, .i1⟩
  | .hbm, ⟨20, _⟩ => ⟨S4096x1, .i32⟩
  | .hbm, ⟨21, _⟩ => ⟨S_, .i1⟩
  | .hbm, ⟨22, _⟩ => ⟨S_, .i1⟩
  | .hbm, ⟨23, _⟩ => ⟨S_, .f32⟩
  | .hbm, ⟨24, _⟩ => ⟨S1, .f32⟩
  | .hbm, ⟨25, _⟩ => ⟨S1x128, .f32⟩
  | .hbm, ⟨26, _⟩ => ⟨S1x64, .f32⟩
  | .hbm, ⟨27, _⟩ => ⟨S1x128, .f32⟩
  | .hbm, ⟨28, _⟩ => ⟨S1x64, .f32⟩
  | .hbm, ⟨29, _⟩ => ⟨S1x128, .f32⟩
  | .hbm, ⟨30, _⟩ => ⟨S1x768, .f32⟩
  | .hbm, ⟨31, _⟩ => ⟨S4096x64, .i32⟩
  | .hbm, ⟨32, _⟩ => ⟨S4096x64, .f32⟩
  | .hbm, ⟨33, _⟩ => ⟨S4096x64, .f32⟩
  | .hbm, ⟨34, _⟩ => ⟨S4096x1, .i32⟩
  | .hbm, ⟨35, _⟩ => ⟨S4096x768, .f32⟩
  | .local _ .vmem, ⟨0, _⟩ => ⟨S32768x128, .f32⟩
  | .local _ .vmem, ⟨1, _⟩ => ⟨S32768x128, .f32⟩
  | .local _ .vmem, ⟨2, _⟩ => ⟨S512x768, .f32⟩
  | .local _ .vmem, ⟨3, _⟩ => ⟨S512x768, .f32⟩
  | .local _ .vmem, ⟨4, _⟩ => ⟨S512x64, .i32⟩
  | .local _ .vmem, ⟨5, _⟩ => ⟨S512x64, .i32⟩
  | .local _ .vmem, ⟨6, _⟩ => ⟨S512x64, .f32⟩
  | .local _ .vmem, ⟨7, _⟩ => ⟨S512x64, .f32⟩
  | .local _ .vmem, ⟨8, _⟩ => ⟨S512x1, .i32⟩
  | .local _ .vmem, ⟨9, _⟩ => ⟨S512x1, .i32⟩
  | .local _ .vmem, ⟨10, _⟩ => ⟨S128x128, .f32⟩
  | .local _ .vmem, ⟨11, _⟩ => ⟨S1x128, .f32⟩
  | .local _ .vmem, ⟨12, _⟩ => ⟨S64x128, .f32⟩
  | .local _ .vmem, ⟨13, _⟩ => ⟨S1x64, .f32⟩
  | .local _ .vmem, ⟨14, _⟩ => ⟨S128x768, .f32⟩
  | .local _ .vmem, ⟨15, _⟩ => ⟨S1x128, .f32⟩
  | .local _ .vmem, ⟨16, _⟩ => ⟨S64x128, .f32⟩
  | .local _ .vmem, ⟨17, _⟩ => ⟨S1x64, .f32⟩
  | .local _ .vmem, ⟨18, _⟩ => ⟨S128x64, .f32⟩
  | .local _ .vmem, ⟨19, _⟩ => ⟨S1x128, .f32⟩
  | .local _ .vmem, ⟨20, _⟩ => ⟨S768x128, .f32⟩
  | .local _ .vmem, ⟨21, _⟩ => ⟨S1x768, .f32⟩
  | .local _ .vmem, ⟨22, _⟩ => ⟨S512x64, .f32⟩
  | .local _ .vmem, ⟨23, _⟩ => ⟨S512x64, .f32⟩
  | .local _ .vmem, ⟨24, _⟩ => ⟨S512x64, .f32⟩
  | .local _ .vmem, ⟨25, _⟩ => ⟨S512x64, .f32⟩
  | .local _ .vmem, ⟨26, _⟩ => ⟨S512x1, .i32⟩
  | .local _ .vmem, ⟨27, _⟩ => ⟨S512x1, .i32⟩
  | .local _ .vmem, ⟨28, _⟩ => ⟨S512x768, .f32⟩
  | .local _ .vmem, ⟨29, _⟩ => ⟨S512x768, .f32⟩
  | .local _ .smem, ⟨0, _⟩ => ⟨S1, .f32⟩
  | _, _ => ⟨S32x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14_0 : Ref sig .tc := ⟨.hbm, 32, rfl⟩
abbrev main_v14_1 : Ref sig .tc := ⟨.hbm, 33, rfl⟩
abbrev main_v14_2 : Ref sig .tc := ⟨.hbm, 34, rfl⟩
abbrev main_v14_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32768x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S768x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x768 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1 .i32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x768 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ReferenceIdeal.lean ====
abbrev S32x128 : Shape := ⟨2, ![32, 128]⟩
abbrev S32x128x768 : Shape := ⟨3, ![32, 128, 768]⟩
abbrev S32x128x64x128 : Shape := ⟨4, ![32, 128, 64, 128]⟩
abbrev S32x128x64 : Shape := ⟨3, ![32, 128, 64]⟩
abbrev S128x128 : Shape := ⟨2, ![128, 128]⟩
abbrev S128 : Shape := ⟨1, ![128]⟩
abbrev S64x128 : Shape := ⟨2, ![64, 128]⟩
abbrev S64 : Shape := ⟨1, ![64]⟩
abbrev S128x768 : Shape := ⟨2, ![128, 768]⟩
abbrev S128x64 : Shape := ⟨2, ![128, 64]⟩
abbrev S768x128 : Shape := ⟨2, ![768, 128]⟩
abbrev S768 : Shape := ⟨1, ![768]⟩
abbrev S4096x64 : Shape := ⟨2, ![4096, 64]⟩
abbrev S1x1x1x128 : Shape := ⟨4, ![1, 1, 1, 128]⟩
abbrev S_ : Shape := ⟨0, ![]⟩
abbrev S32x128x64x64 : Shape := ⟨4, ![32, 128, 64, 64]⟩
abbrev S1x1x1x64 : Shape := ⟨4, ![1, 1, 1, 64]⟩
abbrev S32x128x128 : Shape := ⟨3, ![32, 128, 128]⟩
abbrev S1x1x128 : Shape := ⟨3, ![1, 1, 128]⟩
abbrev S1x1x64 : Shape := ⟨3, ![1, 1, 64]⟩
abbrev S32x128x1x64 : Shape := ⟨4, ![32, 128, 1, 64]⟩
abbrev S32x128x1 : Shape := ⟨3, ![32, 128, 1]⟩
abbrev S4096 : Shape := ⟨1, ![4096]⟩
abbrev S4096x1 : Shape := ⟨2, ![4096, 1]⟩
abbrev S4096x64x64 : Shape := ⟨3, ![4096, 64, 64]⟩
abbrev S4096x1x1 : Shape := ⟨3, ![4096, 1, 1]⟩
abbrev S1 : Shape := ⟨1, ![1]⟩
abbrev S1x1x1 : Shape := ⟨3, ![1, 1, 1]⟩
abbrev S4096x1x64 : Shape := ⟨3, ![4096, 1, 64]⟩
abbrev S1x1x768 : Shape := ⟨3, ![1, 1, 768]⟩
abbrev S4096x768 : Shape := ⟨2, ![4096, 768]⟩

abbrev nBuf : Space → Nat
  | .hbm => 136
  | .vmem => 0
  | .smem => 0
  | _ => 0

abbrev hbmTy0_0 (i : Nat) : BufTy := match i % 128 with
  | 0 => ⟨S32x128, .i32⟩
  | 1 => ⟨S32x128x768, .f32⟩
  | 2 => ⟨S32x128x64x128, .f32⟩
  | 3 => ⟨S32x128x64, .i1⟩
  | 4 => ⟨S128x128, .f32⟩
  | 5 => ⟨S128, .f32⟩
  | 6 => ⟨S64x128, .f32⟩
  | 7 => ⟨S64, .f32⟩
  | 8 => ⟨S128x768, .f32⟩
  | 9 => ⟨S128, .f32⟩
  | 10 => ⟨S64x128, .f32⟩
  | 11 => ⟨S64, .f32⟩
  | 12 => ⟨S128x64, .f32⟩
  | 13 => ⟨S128, .f32⟩
  | 14 => ⟨S768x128, .f32⟩
  | 15 => ⟨S768, .f32⟩
  | 16 => ⟨S4096x64, .f32⟩
  | 17 => ⟨S128x128, .f32⟩
  | 18 => ⟨S32x128x64x128, .f32⟩
  | 19 => ⟨S1x1x1x128, .f32⟩
  | 20 => ⟨S32x128x64x128, .f32⟩
  | 21 => ⟨S32x128x64x128, .f32⟩
  | 22 => ⟨S_, .f32⟩
  | 23 => ⟨S32x128x64x128, .f32⟩
  | 24 => ⟨S32x128x64x128, .f32⟩
  | 25 => ⟨S128x64, .f32⟩
  | 26 => ⟨S32x128x64x64, .f32⟩
  | 27 => ⟨S1x1x1x64, .f32⟩
  | 28 => ⟨S32x128x64x64, .f32⟩
  | 29 => ⟨S32x128x64x64, .f32⟩
  | 30 => ⟨S768x128, .f32⟩
  | 31 => ⟨S32x128x128, .f32⟩
  | 32 => ⟨S1x1x128, .f32⟩
  | 33 => ⟨S32x128x128, .f32⟩
  | 34 => ⟨S32x128x128, .f32⟩
  | 35 => ⟨S_, .f32⟩
  | 36 => ⟨S32x128x128, .f32⟩
  | 37 => ⟨S32x128x128, .f32⟩
  | 38 => ⟨S128x64, .f32⟩
  | 39 => ⟨S32x128x64, .f32⟩
  | 40 => ⟨S1x1x64, .f32⟩
  | 41 => ⟨S32x128x64, .f32⟩
  | 42 => ⟨S32x128x64, .f32⟩
  | 43 => ⟨S32x128x1x64, .f32⟩
  | 44 => ⟨S32x128x64x64, .f32⟩
  | 45 => ⟨S32x128x1x64, .f32⟩
  | 46 => ⟨S32x128x64, .f32⟩
  | 47 => ⟨S4096x64, .i1⟩
  | 48 => ⟨S4096x64, .i32⟩
  | 49 => ⟨S_, .i32⟩
  | 50 => ⟨S_, .i32⟩
  | 51 => ⟨S_, .i32⟩
  | 52 => ⟨S_, .i1⟩
  | 53 => ⟨S_, .i1⟩
  | 54 => ⟨S4096x64, .i1⟩
  | 55 => ⟨S4096x64, .i1⟩
  | 56 => ⟨S32x128x64, .i1⟩
  | 57 => ⟨S_, .f32⟩
  | 58 => ⟨S32x128x64, .f32⟩
  | 59 => ⟨S32x128x64, .f32⟩
  | 60 => ⟨S_, .f32⟩
  | 61 => ⟨S32x128, .f32⟩
  | 62 => ⟨S32x128x1, .f32⟩
  | 63 => ⟨S32x128x64, .f32⟩
  | 64 => ⟨S32x128x64, .f32⟩
  | 65 => ⟨S32x128x64, .f32⟩
  | 66 => ⟨S32x128x64, .f32⟩
  | 67 => ⟨S32x128x64, .f32⟩
  | 68 => ⟨S_, .f32⟩
  | 69 => ⟨S32x128, .f32⟩
  | 70 => ⟨S32x128x1, .f32⟩
  | 71 => ⟨S32x128x64, .f32⟩
  | 72 => ⟨S32x128x64, .f32⟩
  | 73 => ⟨S4096x64, .f32⟩
  | 74 => ⟨S_, .f32⟩
  | 75 => ⟨S4096x64, .f32⟩
  | 76 => ⟨S4096x64, .f32⟩
  | 77 => ⟨S4096x64, .f32⟩
  | 78 => ⟨S4096x64, .f32⟩
  | 79 => ⟨S4096x64, .i32⟩
  | 80 => ⟨S_, .f32⟩
  | 81 => ⟨S_, .i32⟩
  | 82 => ⟨S4096, .f32⟩
  | 83 => ⟨S4096, .i32⟩
  | 84 => ⟨S4096x1, .i32⟩
  | 85 => ⟨S32x128x1, .i32⟩
  | 86 => ⟨S4096x64x64, .f32⟩
  | 87 => ⟨S4096x1x1, .i32⟩
  | 88 => ⟨S_, .i32⟩
  | 89 => ⟨S4096x1x1, .i32⟩
  | 90 => ⟨S4096x1x1, .i1⟩
  | 91 => ⟨S_, .i32⟩
  | 92 => ⟨S4096x1x1, .i32⟩
  | 93 => ⟨S4096x1x1, .i32⟩
  | 94 => ⟨S4096x1x1, .i32⟩
  | 95 => ⟨S1, .i32⟩
  | 96 => ⟨S_, .i32⟩
  | 97 => ⟨S4096x1x1, .i32⟩
  | 98 => ⟨S4096x1x1, .i1⟩
  | 99 => ⟨S1x1x1, .i32⟩
  | 100 => ⟨S4096x1x1, .i32⟩
  | 101 => ⟨S4096x1x1, .i1⟩
  | 102 => ⟨S4096x1x1, .i1⟩
  | 103 => ⟨S_, .i1⟩
  | 104 => ⟨S4096x1, .i1⟩
  | 105 => ⟨S4096x1x64, .f32⟩
  | 106 => ⟨S4096x1x64, .i1⟩
  | 107 => ⟨S_, .f32⟩
  | 108 => ⟨S4096x1x64, .f32⟩
  | 109 => ⟨S4096x1x64, .f32⟩
  | 110 => ⟨S32x128x64, .f32⟩
  | 111 => ⟨S64x128, .f32⟩
  | 112 => ⟨S32x128x128, .f32⟩
  | 113 => ⟨S1x1x128, .f32⟩
  | 114 => ⟨S32x128x128, .f32⟩
  | 115 => ⟨S32x128x128, .f32⟩
  | 116 => ⟨S_, .f32⟩
  | 117 => ⟨S32x128x128, .f32⟩
  | 118 => ⟨S32x128x128, .f32⟩
  | 119 => ⟨S128x768, .f32⟩
  | 120 => ⟨S32x128x768, .f32⟩
  | 121 => ⟨S1x1x768, .f32⟩
  | 122 => ⟨S32x128x768, .f32⟩
  | 123 => ⟨S32x128x768, .f32⟩
  | 124 => ⟨S_, .i32⟩
  | 125 => ⟨S32x128, .i32⟩
  | 126 => ⟨S32x128, .i1⟩
  | 127 => ⟨S32x128x1, .i1⟩
  | _ => ⟨S32x128, .i32⟩

abbrev hbmTy0_1 (i : Nat) : BufTy := match i % 128 with
  | 0 => ⟨S32x128x1, .f32⟩
  | 1 => ⟨S32x128x768, .f32⟩
  | 2 => ⟨S32x128x768, .f32⟩
  | 3 => ⟨S32x128x768, .f32⟩
  | 4 => ⟨S4096x64, .f32⟩
  | 5 => ⟨S4096x64, .f32⟩
  | 6 => ⟨S4096x1, .i32⟩
  | 7 => ⟨S4096x768, .f32⟩
  | _ => ⟨S32x128, .i32⟩

abbrev hbmTy (i : Nat) : BufTy := match i / 128 with
  | 0 => hbmTy0_0 i
  | 1 => hbmTy0_1 i
  | _ => ⟨S32x128, .i32⟩

abbrev bufTy : (tb : Table) → Fin (tcTables nBuf tb) → BufTy
  | .hbm, ⟨i, _⟩ => hbmTy i
  | _, _ => ⟨S32x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call0_cst : Ref sig .tc := ⟨.hbm, 22, rfl⟩
abbrev main_call0_v0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_call1_cst : Ref sig .tc := ⟨.hbm, 35, rfl⟩
abbrev main_call1_v0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c : Ref sig .tc := ⟨.hbm, 49, rfl⟩
abbrev main_v28 : Ref sig .tc := ⟨.hbm, 50, rfl⟩
abbrev main_c_0 : Ref sig .tc := ⟨.hbm, 51, rfl⟩
abbrev main_v29 : Ref sig .tc := ⟨.hbm, 52, rfl⟩
abbrev main_c_1 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst : Ref sig .tc := ⟨.hbm, 57, rfl⟩
abbrev main_call3_v0 : Ref sig .tc := ⟨.hbm, 58, rfl⟩
abbrev main_v33 : Ref sig .tc := ⟨.hbm, 59, rfl⟩
abbrev main_cst_2 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_3 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_4 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_call4_v0 : Ref sig .tc := ⟨.hbm, 79, rfl⟩
abbrev main_call4_cst : Ref sig .tc := ⟨.hbm, 80, rfl⟩
abbrev main_call4_c : Ref sig .tc := ⟨.hbm, 81, rfl⟩
abbrev main_call4_v1_0 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_call5_c : Ref sig .tc := ⟨.hbm, 88, rfl⟩
abbrev main_call5_v0 : Ref sig .tc := ⟨.hbm, 89, rfl⟩
abbrev main_call5_v1 : Ref sig .tc := ⟨.hbm, 90, rfl⟩
abbrev main_call5_c_0 : Ref sig .tc := ⟨.hbm, 91, rfl⟩
abbrev main_call5_v2 : Ref sig .tc := ⟨.hbm, 92, rfl⟩
abbrev main_call5_v3 : Ref sig .tc := ⟨.hbm, 93, rfl⟩
abbrev main_call5_v4 : Ref sig .tc := ⟨.hbm, 94, rfl⟩
abbrev main_call5_c_1 : Ref sig .tc := ⟨.hbm, 95, rfl⟩
abbrev main_call5_c_2 : Ref sig .tc := ⟨.hbm, 96, rfl⟩
abbrev main_call5_v5 : Ref sig .tc := ⟨.hbm, 97, rfl⟩
abbrev main_call5_v6 : Ref sig .tc := ⟨.hbm, 98, rfl⟩
abbrev main_call5_v7 : Ref sig .tc := ⟨.hbm, 99, rfl⟩
abbrev main_call5_v8 : Ref sig .tc := ⟨.hbm, 100, rfl⟩
abbrev main_call5_v9 : Ref sig .tc := ⟨.hbm, 101, rfl⟩
abbrev main_call5_v10 : Ref sig .tc := ⟨.hbm, 102, rfl⟩
abbrev main_call5_c_3 : Ref sig .tc := ⟨.hbm, 103, rfl⟩
abbrev main_call5_v11 : Ref sig .tc := ⟨.hbm, 104, rfl⟩
abbrev main_call5_v12 : Ref sig .tc := ⟨.hbm, 105, rfl⟩
abbrev main_call5_v13 : Ref sig .tc := ⟨.hbm, 106, rfl⟩
abbrev main_call5_cst : Ref sig .tc := ⟨.hbm, 107, rfl⟩
abbrev main_call5_v14 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_call6_cst : Ref sig .tc := ⟨.hbm, 116, rfl⟩
abbrev main_call6_v0 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_c_5 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩

abbrev nD : Nat := 1
abbrev τ : Topo := Topo.v7x

variable {F : FTy → Type} [FloatOps F]
-- ==== Proof.Row.lean ====
/- One row of the switch selection, as plain functions on finite index sets. A row has 64 candidates. Each candidate has
   128 features, the row's embedding has 768 entries, and keys and queries have 64 entries. Both programs are later read
   at an index and put on these functions. -/
module

public import Idealize.ShloMosaic.PureOps.Ideal.Laws
public import Idealize.ShloMosaic.PureOps.Reduce

@[expose] public section

noncomputable section

namespace Cert.Row

open Idealize.ShloMosaic

/-- A two-layer perceptron with a rectifier between the layers, at output `k`. -/
def mlp {a h : ℕ} {κ : Type} (x : Fin a → EReal) (w1 : Fin h → Fin a → EReal) (b1 : Fin h → EReal)
    (w2 : κ → Fin h → EReal) (b2 : κ → EReal) (k : κ) : EReal :=
  (∑ j : Fin h, max ((∑ e : Fin a, x e * w1 j e) + b1 j) 0 * w2 k j) + b2 k

/-- The same perceptron with no biases. -/
def mlpPlain {a h : ℕ} {κ : Type} (x : Fin a → EReal) (w1 : Fin h → Fin a → EReal) (w2 : κ → Fin h → EReal) (k : κ) : EReal :=
  ∑ j : Fin h, max (∑ e : Fin a, x e * w1 j e) 0 * w2 k j

/-- With zero biases the two perceptrons agree. -/
theorem mlp_zero {a h : ℕ} {κ : Type} (x : Fin a → EReal) (w1 : Fin h → Fin a → EReal) (w2 : κ → Fin h → EReal) (k : κ)
    (b1 : Fin h → EReal) (b2 : κ → EReal) (h1 : ∀ j, b1 j = 0) (h2 : b2 k = 0) : mlp x w1 b1 w2 b2 k = mlpPlain x w1 w2 k := by
  simp only [mlp, mlpPlain, h1, h2, add_zero]

/-- The score of candidate `n`: its key against the query. -/
def logit (key : Fin 64 → Fin 64 → EReal) (query : Fin 64 → EReal) (n : Fin 64) : EReal := ∑ k : Fin 64, key n k * query k

/-- The mask bit in force: the row's own, unless no bit of the whole mask is set. -/
def live (any own : BitVec 1) : BitVec 1 := if any = 1#1 then own else 1#1

/-- A bit as a number. -/
def weight (b : BitVec 1) : EReal := if b = 1#1 then 1 else 0

/-- The score of a candidate in force, or the least finite 32-bit float. -/
def masked (bit : Fin 64 → BitVec 1) (lg : Fin 64 → EReal) (n : Fin 64) : EReal :=
  if bit n = 1#1 then lg n else Ideal.ofBits .f32 0xFF7FFFFF#32

/-- The greatest of 64 extended reals. -/
def top (x : Fin 64 → EReal) : EReal := Finset.univ.fold max ⊥ x

/-- The weight of candidate `n` before normalising. -/
def raw (bit : Fin 64 → BitVec 1) (lg : Fin 64 → EReal) (n : Fin 64) : EReal :=
  Ideal.exp (masked bit lg n - top (masked bit lg)) * weight (bit n)

/-- The masked softmax. -/
def policy (bit : Fin 64 → BitVec 1) (lg : Fin 64 → EReal) (n : Fin 64) : EReal :=
  Ideal.div (raw bit lg n) (∑ i : Fin 64, raw bit lg i)

/-- The perturbed logarithm of the policy. -/
def score (bit : Fin 64 → BitVec 1) (lg noise : Fin 64 → EReal) (n : Fin 64) : EReal :=
  Ideal.log (policy bit lg n + Ideal.ofBits .f32 0x0DA24260#32) + noise n

/-! ## The first greatest index -/

/-- `k` is the first index at which `z` is greatest. -/
def IsFirst (z : Fin 64 → EReal) (k : Fin 64) : Prop := (∀ n, z n ≤ z k) ∧ ∀ n, z n = z k → k ≤ n

theorem exists_first (z : Fin 64 → EReal) : ∃ k, IsFirst z k := by
  obtain ⟨m, -, hm⟩ := Finset.exists_max_image Finset.univ z ⟨0, Finset.mem_univ _⟩
  have hne : (Finset.univ.filter fun k => z k = z m).Nonempty := ⟨m, by simp⟩
  refine ⟨(Finset.univ.filter fun k => z k = z m).min' hne, ?_, ?_⟩
  · have h := (Finset.mem_filter.1 (Finset.min'_mem _ hne)).2
    intro n; rw [h]; exact hm n (Finset.mem_univ n)
  · have h := (Finset.mem_filter.1 (Finset.min'_mem _ hne)).2
    intro n hn; exact Finset.min'_le _ _ (by simp [hn, h])

/-- The first index at which `z` is greatest. -/
def first (z : Fin 64 → EReal) : Fin 64 := (exists_first z).choose

theorem first_spec (z : Fin 64 → EReal) : IsFirst z (first z) := (exists_first z).choose_spec

/-- There is one first index only. -/
theorem eq_first {z : Fin 64 → EReal} {k : Fin 64} (h : IsFirst z k) : k = first z := by
  have g := first_spec z
  have e : z k = z (first z) := le_antisymm (g.1 k) (h.1 _)
  exact le_antisymm (h.2 _ e.symm) (g.2 _ e)

/-- The greatest value is the value at the first index. -/
theorem top_eq (z : Fin 64 → EReal) : top z = z (first z) := by
  have g := first_spec z
  refine le_antisymm ?_ ?_
  · exact Finset.fold_max_le _ |>.2 ⟨bot_le, fun n _ => g.1 n⟩
  · exact (Finset.le_fold_max _).2 (Or.inr ⟨_, Finset.mem_univ _, le_rfl⟩)

/-- The row's result: the embedding, and for a row of the right kind the projected key of the candidate taken. -/
def out (ar : Fin 768 → EReal) (valid : BitVec 1) (emb : Fin 64 → EReal) (w1 : Fin 128 → Fin 64 → EReal) (b1 : Fin 128 → EReal)
    (w2 : Fin 768 → Fin 128 → EReal) (b2 : Fin 768 → EReal) (a : Fin 768) : EReal :=
  ar a + weight valid * mlp emb w1 b1 w2 b2 a

/-! ## The two ways of finding it -/

/-- The signed minimum of two words, read as integers. -/
theorem minsi_toInt (a b : BitVec 32) : (IntOp.minsi a b).toInt = min a.toInt b.toInt := by
  unfold IntOp.minsi
  by_cases h : a.slt b = true
  · rw [if_pos h]; rw [BitVec.slt_iff_toInt_lt] at h; omega
  · rw [if_neg h]; rw [BitVec.slt_iff_toInt_lt] at h; omega

/-- A fold of the signed minimum is at most its start and at most every word met, and it is one of them. -/
theorem fold_minsi (g : Fin 64 → BitVec 32) (start : BitVec 32) (s : Finset (Fin 64)) :
    (s.fold IntOp.minsi start g).toInt ≤ start.toInt ∧ (∀ i ∈ s, (s.fold IntOp.minsi start g).toInt ≤ (g i).toInt)
      ∧ (s.fold IntOp.minsi start g = start ∨ ∃ i ∈ s, s.fold IntOp.minsi start g = g i) := by
  induction s using Finset.induction_on with
  | empty => simp
  | insert a s ha ih =>
    obtain ⟨h0, h1, h2⟩ := ih
    rw [Finset.fold_insert ha]
    have hm := minsi_toInt (g a) (s.fold IntOp.minsi start g)
    refine ⟨by omega, fun i hi => ?_, ?_⟩
    · rcases Finset.mem_insert.1 hi with rfl | hi
      · omega
      · have := h1 i hi; omega
    · unfold IntOp.minsi
      split
      · exact Or.inr ⟨a, Finset.mem_insert_self a s, rfl⟩
      · rcases h2 with h2 | ⟨i, hi, h2⟩
        · exact Or.inl h2
        · exact Or.inr ⟨i, Finset.mem_insert_of_mem hi, h2⟩

/-- A small natural number as a word, read back as an integer. -/
theorem ofNat_toInt (n : ℕ) (h : n < 2 ^ 31) : (BitVec.ofNat 32 n).toInt = n := by
  rw [BitVec.toInt_eq_toNat_cond, BitVec.toNat_ofNat, Nat.mod_eq_of_lt (by omega)]; split <;> omega

/-- The least word among the indices at which `z` is greatest, 64 elsewhere, is the first greatest index. -/
theorem fold_min_first (z : Fin 64 → EReal) :
    Finset.univ.fold IntOp.minsi 2147483647#32 (fun n : Fin 64 => if z n = top z then BitVec.ofNat 32 n.val else 64#32)
      = BitVec.ofNat 32 (first z).val := by
  obtain ⟨-, h1, h2⟩ := fold_minsi (fun n : Fin 64 => if z n = top z then BitVec.ofNat 32 n.val else 64#32) 2147483647#32 Finset.univ
  have hk := h1 (first z) (Finset.mem_univ _)
  rw [if_pos (top_eq z).symm, ofNat_toInt _ (by omega)] at hk
  have hlt := (first z).isLt
  rcases h2 with h2 | ⟨i, -, h2⟩
  · rw [h2] at hk
    have : (2147483647#32 : BitVec 32).toInt = 2147483647 := by decide
    omega
  · rw [h2] at hk ⊢
    by_cases hi : z i = top z
    · rw [if_pos hi, ofNat_toInt _ (by omega)] at hk
      have := (first_spec z).2 i (hi.trans (top_eq z))
      rw [if_pos hi, show i = first z from le_antisymm (by rw [Fin.le_def]; omega) this]
    · rw [if_neg hi] at hk
      have : (64#32 : BitVec 32).toInt = 64 := by decide
      omega

/-- Folding the pairs (value, index) by "the greater value, the smaller index on equal values": the result is one of the
    pairs met, and no pair met is better. -/
theorem foldl_best (f : EReal × BitVec 32 → EReal × BitVec 32 → EReal × BitVec 32)
    (hf : ∀ a b, f a b = if b.1 < a.1 ∨ (a.1 = b.1 ∧ a.2.toInt < b.2.toInt) then a else b) (l : List (EReal × BitVec 32))
    (s : EReal × BitVec 32) :
    l.foldl f s ∈ s :: l ∧ ∀ p ∈ s :: l, p.1 < (l.foldl f s).1 ∨ (p.1 = (l.foldl f s).1 ∧ (l.foldl f s).2.toInt ≤ p.2.toInt) := by
  induction l generalizing s with
  | nil => simp
  | cons a l ih =>
    obtain ⟨h1, h2⟩ := ih (f s a)
    rw [List.foldl_cons]
    have key : (f s a = s ∨ f s a = a) ∧ ∀ p, p = s ∨ p = a → p.1 < (f s a).1 ∨ (p.1 = (f s a).1 ∧ (f s a).2.toInt ≤ p.2.toInt) := by
      rw [hf]
      split
      · rename_i h
        refine ⟨Or.inl rfl, ?_⟩
        rintro p (rfl | rfl)
        · exact Or.inr ⟨rfl, le_rfl⟩
        · rcases h with h | ⟨h, h'⟩
          · exact Or.inl h
          · exact Or.inr ⟨h.symm, h'.le⟩
      · rename_i h
        rw [not_or] at h
        refine ⟨Or.inr rfl, ?_⟩
        rintro p (rfl | rfl)
        · rcases lt_or_eq_of_le (not_lt.1 h.1) with e | e
          · exact Or.inl e
          · exact Or.inr ⟨e, not_lt.1 fun x => h.2 ⟨e, x⟩⟩
        · exact Or.inr ⟨rfl, le_rfl⟩
    refine ⟨?_, fun p hp => ?_⟩
    · rcases List.mem_cons.1 h1 with h | h
      · rcases key.1 with e | e
        · rw [h, e]; simp
        · rw [h, e]; simp
      · exact List.mem_cons_of_mem _ (List.mem_cons_of_mem _ h)
    · have hstep : ∀ q : EReal × BitVec 32, (q = s ∨ q = a) →
          q.1 < (l.foldl f (f s a)).1 ∨ (q.1 = (l.foldl f (f s a)).1 ∧ (l.foldl f (f s a)).2.toInt ≤ q.2.toInt) := by
        intro q hq
        rcases key.2 q hq with e | ⟨e, e'⟩ <;> rcases h2 (f s a) List.mem_cons_self with g | ⟨g, g'⟩
        · exact Or.inl (e.trans g)
        · exact Or.inl (g ▸ e)
        · exact Or.inl (e ▸ g)
        · exact Or.inr ⟨e.trans g, g'.trans e'⟩
      rcases List.mem_cons.1 hp with rfl | hp
      · exact hstep p (Or.inl rfl)
      · rcases List.mem_cons.1 hp with rfl | hp
        · exact hstep p (Or.inr rfl)
        · exact h2 p (List.mem_cons_of_mem _ hp)

/-- So over a list that holds exactly the 64 pairs (value, index), from the pair (least value, index zero), the fold ends
    at the first greatest index. -/
theorem foldl_first (f : EReal × BitVec 32 → EReal × BitVec 32 → EReal × BitVec 32)
    (hf : ∀ a b, f a b = if b.1 < a.1 ∨ (a.1 = b.1 ∧ a.2.toInt < b.2.toInt) then a else b) (z : Fin 64 → EReal)
    (l : List (EReal × BitVec 32)) (hl : ∀ p, p ∈ l ↔ ∃ n : Fin 64, p = (z n, BitVec.ofNat 32 n.val)) :
    (l.foldl f (⊥, 0#32)).2 = BitVec.ofNat 32 (first z).val := by
  obtain ⟨h1, h2⟩ := foldl_best f hf l (⊥, 0#32)
  have hz : ∀ n : Fin 64, z n < (l.foldl f (⊥, 0#32)).1 ∨
      (z n = (l.foldl f (⊥, 0#32)).1 ∧ (l.foldl f (⊥, 0#32)).2.toInt ≤ n.val) := by
    intro n
    have h := h2 (z n, BitVec.ofNat 32 n.val) (List.mem_cons_of_mem _ ((hl _).2 ⟨n, rfl⟩))
    have e : (BitVec.ofNat 32 n.val).toInt = n.val := ofNat_toInt _ (by omega)
    simpa [e] using h
  have hk : ∃ k : Fin 64, l.foldl f (⊥, 0#32) = (z k, BitVec.ofNat 32 k.val) := by
    rcases List.mem_cons.1 h1 with h | h
    · refine ⟨0, ?_⟩
      have h0 := hz 0
      rw [h] at h0 ⊢
      simp only [not_lt_bot, false_or] at h0
      rw [h0.1]; rfl
    · exact (hl _).1 h
  obtain ⟨k, hk⟩ := hk
  rw [hk] at hz ⊢
  have hc : ∀ n : Fin 64, z n < z k ∨ (z n = z k ∧ k.val ≤ n.val) := by
    intro n
    have h := hz n
    have e : (BitVec.ofNat 32 k.val).toInt = k.val := ofNat_toInt _ (by omega)
    simpa [e] using h
  have : k = first z := by
    refine eq_first ⟨fun n => ?_, fun n hn => ?_⟩
    · rcases hc n with h | h
      · exact h.le
      · exact h.1.le
    · rcases hc n with h | h
      · exact absurd hn h.ne
      · exact h.2
  rw [← this]

end Cert.Row

end
-- ==== Proof.Spec.lean ====
/- What the two programs compute, as functions of the sixteen arguments, for row `(b, s)` of the 32 by 128 rows. -/
module

public import proofs.«01_k».proof.Proof.Row
public import Idealize.ShloMosaic.Lib.Pointwise

@[expose] public section

noncomputable section

namespace Cert.Spec

open Idealize.ShloMosaic Cert.Row

/-- The arguments of a call. -/
structure Args where
  ati : IVec ⟨2, ![32, 128]⟩ 32
  ar : FVec Ideal ⟨3, ![32, 128, 768]⟩ .f32
  sw : FVec Ideal ⟨4, ![32, 128, 64, 128]⟩ .f32
  mask : IVec ⟨3, ![32, 128, 64]⟩ 1
  kw1 : FVec Ideal ⟨2, ![128, 128]⟩ .f32
  kb1 : FVec Ideal ⟨1, ![128]⟩ .f32
  kw2 : FVec Ideal ⟨2, ![64, 128]⟩ .f32
  kb2 : FVec Ideal ⟨1, ![64]⟩ .f32
  qw1 : FVec Ideal ⟨2, ![128, 768]⟩ .f32
  qb1 : FVec Ideal ⟨1, ![128]⟩ .f32
  qw2 : FVec Ideal ⟨2, ![64, 128]⟩ .f32
  qb2 : FVec Ideal ⟨1, ![64]⟩ .f32
  pw1 : FVec Ideal ⟨2, ![128, 64]⟩ .f32
  pb1 : FVec Ideal ⟨1, ![128]⟩ .f32
  pw2 : FVec Ideal ⟨2, ![768, 128]⟩ .f32
  pb2 : FVec Ideal ⟨1, ![768]⟩ .f32
  noise : FVec Ideal ⟨2, ![4096, 64]⟩ .f32

/-- The place of row `(b, s)` in the flat order of the rows. -/
def flat (b : Fin 32) (s : Fin 128) : Fin 4096 := ⟨b.val * 128 + s.val, by omega⟩

namespace Args

variable (A : Args) (b : Fin 32) (s : Fin 128)

/-- The key of candidate `n`, the perceptron taken without its biases. -/
def key (n k : Fin 64) : EReal :=
  mlpPlain (fun e => A.sw (ix4 b s n e)) (fun j e => A.kw1 (ix2 j e)) (fun k j => A.kw2 (ix2 k j)) k

/-- The row's query. -/
def query (k : Fin 64) : EReal :=
  mlp (fun e => A.ar (ix3 b s e)) (fun j e => A.qw1 (ix2 j e)) (fun j => A.qb1 (ix1 j)) (fun k j => A.qw2 (ix2 k j))
    (fun k => A.qb2 (ix1 k)) k

/-- The scores of the candidates: the first result. -/
def logits (n : Fin 64) : EReal := logit (A.key b s) (A.query b s) n

open Classical in
/-- Whether any bit of the whole mask is set. -/
def any : BitVec 1 := if ∃ i, A.mask i = 1#1 then 1#1 else 0#1

/-- The mask bits in force. -/
def bits (n : Fin 64) : BitVec 1 := live A.any (A.mask (ix3 b s n))

/-- The masked softmax of the scores: the second result. -/
def policy (n : Fin 64) : EReal := Row.policy (A.bits b s) (A.logits b s) n

/-- The candidate taken: the third result. -/
def choice : Fin 64 := first (score (A.bits b s) (A.logits b s) fun n => A.noise (ix2 (flat b s) n))

/-- The row's new embedding: the fourth result. -/
def out (a : Fin 768) : EReal :=
  Row.out (fun a => A.ar (ix3 b s a)) (BitVec.ofBool (A.ati (ix2 b s) == 1#32)) (fun k => A.key b s (A.choice b s) k)
    (fun j e => A.pw1 (ix2 j e)) (fun j => A.pb1 (ix1 j)) (fun k j => A.pw2 (ix2 k j)) (fun k => A.pb2 (ix1 k)) a

/-- The first coordinate of a row in the flat order. -/
def outer (r : Fin 4096) : Fin 32 := ⟨r.val / 128, by omega⟩

/-- The second coordinate of a row in the flat order. -/
def inner (r : Fin 4096) : Fin 128 := ⟨r.val % 128, by omega⟩

/-- The first result. -/
def logitsArr : FVec Ideal ⟨2, ![4096, 64]⟩ .f32 := fun j => A.logits (outer (j 0)) (inner (j 0)) (j 1)

/-- The second result. -/
def policyArr : FVec Ideal ⟨2, ![4096, 64]⟩ .f32 := fun j => A.policy (outer (j 0)) (inner (j 0)) (j 1)

/-- The third result. -/
def choiceArr : IVec ⟨2, ![4096, 1]⟩ 32 := fun j => BitVec.ofNat 32 (A.choice (outer (j 0)) (inner (j 0))).val

/-- The fourth result. -/
def outArr : FVec Ideal ⟨2, ![4096, 768]⟩ .f32 := fun j => A.out (outer (j 0)) (inner (j 0)) (j 1)

end Args

end Cert.Spec
-- ==== Proof.Words.lean ====
/- Facts about words: the sum of a mask's bits as 32-bit words against the disjunction of its bits, and bits turned into
   numbers. -/
module

public import Idealize.ShloMosaic.PureOps.Ideal.Laws
public import Idealize.ShloMosaic.PureOps.Reduce
public import proofs.«01_k».proof.Proof.Row

@[expose] public section

noncomputable section

namespace Cert.Row

open Idealize.ShloMosaic

/-- A wrapping sum of 32-bit words is the sum of their values modulo `2 ^ 32`. -/
theorem fold_addi_toNat {ι : Type} [DecidableEq ι] (s : Finset ι) (g : ι → BitVec 32) :
    (s.fold IntOp.addi 0#32 g).toNat = (∑ i ∈ s, (g i).toNat) % 2 ^ 32 := by
  induction s using Finset.induction_on with
  | empty => simp
  | insert a s ha ih =>
    rw [Finset.fold_insert ha, Finset.sum_insert ha]
    have hadd : ∀ x y : BitVec 32, (IntOp.addi x y).toNat = (x.toNat + y.toNat) % 2 ^ 32 := fun x y => BitVec.toNat_add x y
    rw [hadd, ih, Nat.add_mod_mod]

/-- A disjunction of bits is set exactly when one of them is. -/
theorem fold_ori_iff {ι : Type} [DecidableEq ι] (s : Finset ι) (g : ι → BitVec 1) :
    s.fold IntOp.ori 0#1 g = 1#1 ↔ ∃ i ∈ s, g i = 1#1 := by
  induction s using Finset.induction_on with
  | empty => simp
  | insert a s ha ih =>
    have hor : ∀ x y : BitVec 1, IntOp.ori x y = 1#1 ↔ x = 1#1 ∨ y = 1#1 := by decide
    rw [Finset.fold_insert ha, hor, ih]
    simp

/-- The number of set bits of a mask of fewer than `2 ^ 32` entries, summed in 32-bit words over all its entries, is zero
    exactly when no bit is set. -/
theorem count_zero_iff {s t u : Shape} {axes : List (Fin s.rank)} (b : s.Idx → BitVec 1) (hs : Fintype.card s.Idx < 2 ^ 32)
    (init : u.Idx → BitVec 32) (h : s.ReducesTo axes t) (hu : 0 < u.numel) (h0 : ∀ i, init i = 0#32) (j : t.Idx) (hj : ∀ i, h.drop i = j) :
    Host.reduce IntOp.addi (fun i => (b i).setWidth 32) init h hu j = 0#32 ↔ ∀ i, b i ≠ 1#1 := by
  classical
  have hset : ∀ x : BitVec 1, (x.setWidth 32).toNat = if x = 1#1 then 1 else 0 := by decide
  rw [Host.reduce_eq_fold, h0, Finset.filter_true_of_mem fun i _ => hj i, ← BitVec.toNat_inj, fold_addi_toNat]
  simp only [hset]
  rw [← Finset.card_filter, Nat.mod_eq_of_lt (lt_of_le_of_lt (Finset.card_le_univ _) hs)]
  simp [Finset.filter_eq_empty_iff]

/-- The disjunction of a mask's bits over all its entries is set exactly when one of them is. -/
theorem any_iff {s t u : Shape} {axes : List (Fin s.rank)} (b : s.Idx → BitVec 1) (init : u.Idx → BitVec 1)
    (h : s.ReducesTo axes t) (hu : 0 < u.numel) (h0 : ∀ i, init i = 0#1) (j : t.Idx) (hj : ∀ i, h.drop i = j) :
    Host.reduce IntOp.ori b init h hu j = 1#1 ↔ ∃ i, b i = 1#1 := by
  classical
  rw [Host.reduce_eq_fold, h0, Finset.filter_true_of_mem fun i _ => hj i, fold_ori_iff]
  simp

end Cert.Row

end
-- ==== Proof.Scalars.lean ====
/- The scalar operations of the two programs on a row's entries. -/
module

public import proofs.«01_k».proof.Proof.Row

@[expose] public section

noncomputable section

namespace Cert.Row

open Idealize.ShloMosaic

/-- The word of minus infinity. -/
theorem ofBits_bot : Ideal.ofBits .f32 0xFF800000#32 = ⊥ := by
  simp [Ideal.ofBits, Ideal.ieee]

/-- A bit read as an unsigned number. -/
theorem uitofp_bit (b : BitVec 1) : FloatOps.uitofp (F := Ideal) .f32 b = weight b := by
  show (((b.toNat : ℕ) : ℝ) : EReal) = weight b
  rcases BitVec.eq_zero_or_eq_one b with rfl | rfl <;> simp [weight]

/-- A bit widened to a word and read as a signed number. -/
theorem sitofp_bit (b : BitVec 1) : FloatOps.sitofp (F := Ideal) .f32 (b.setWidth 32) = weight b := by
  show ((((b.setWidth 32).toInt : ℤ) : ℝ) : EReal) = weight b
  rcases BitVec.eq_zero_or_eq_one b with rfl | rfl <;> simp [weight]

/-- A choice by a bit. -/
theorem select_bit {α : Type} (c : BitVec 1) (x y : α) : Scalar.select c x y = if c = 1#1 then x else y := rfl

theorem weight_pos (b : BitVec 1) : 0 < weight b ↔ b = 1#1 := by
  rcases BitVec.eq_zero_or_eq_one b with rfl | rfl <;> simp [weight]

/-- The greater of the row's own bit and the complement of the bit "some bit is set" is the bit in force. -/
theorem max_weight (any own : BitVec 1) :
    max (FloatOps.sitofp (F := Ideal) .f32 ((IntOp.cmpi .ne (own.setWidth 32) 0#32).setWidth 32)) (1 - weight any)
      = weight (live any own) := by
  have h : IntOp.cmpi .ne (own.setWidth 32) 0#32 = own := by
    rcases BitVec.eq_zero_or_eq_one own with rfl | rfl <;> decide
  have one : (1 : EReal) - 1 = 0 := by rw [← EReal.coe_one, ← EReal.coe_sub, sub_self, EReal.coe_zero]
  rw [h, sitofp_bit]
  rcases BitVec.eq_zero_or_eq_one own with rfl | rfl <;> rcases BitVec.eq_zero_or_eq_one any with rfl | rfl <;>
    simp [weight, live, one]

/-- A row with one 1 takes one entry of a column. -/
theorem sum_onehot (g : Fin 64 → EReal) (f : Fin 64) :
    ∑ x : Fin 64, FloatOps.sitofp (F := Ideal) .f32
      ((IntOp.cmpi .eq (BitVec.ofNat 32 x.val) (BitVec.ofNat 32 f.val)).setWidth 32) * g x = g f := by
  have h : ∀ x : Fin 64, IntOp.cmpi .eq (BitVec.ofNat 32 x.val) (BitVec.ofNat 32 f.val) = if x = f then 1#1 else 0#1 := by
    intro x
    have e : (BitVec.ofNat 32 x.val = BitVec.ofNat 32 f.val) ↔ x = f := by
      rw [← BitVec.toNat_inj, BitVec.toNat_ofNat, BitVec.toNat_ofNat, Nat.mod_eq_of_lt (by omega), Nat.mod_eq_of_lt (by omega),
        Fin.ext_iff]
    by_cases hx : x = f
    · rw [if_pos hx, hx]; simp [IntOp.cmpi]
    · rw [if_neg hx]; simp [IntOp.cmpi, beq_eq_false_iff_ne.2 (fun k => hx (e.1 k))]
  rw [Finset.sum_eq_single f]
  · rw [h, if_pos rfl, sitofp_bit]; simp [weight]
  · intro x _ hx; rw [h, if_neg hx, sitofp_bit]; simp [weight]
  · intro hf; exact absurd (Finset.mem_univ f) hf

end Cert.Row
-- ==== Proof.Blocks.lean ====
/- The blocks a grid point reads, as entries of the arguments. -/
module

public import proofs.«01_k».proof.Proof.Gen.KernelIdeal.Frame
public import proofs.«01_k».proof.Proof.Spec
public import proofs.«01_k».proof.Proof.Words
public import proofs.«01_k».proof.Proof.Scalars
public import Idealize.ShloMosaic.Lib.Pointwise
public import Idealize.ShloMosaic.Lib.Pipeline.ValueKit

@[expose] public section

set_option maxRecDepth 16384

noncomputable section

namespace Cert.Blocks

open Idealize.ShloMosaic Idealize.ShloMosaic.TcCoe Idealize.SL.Sem
open Idealize.ShloMosaic.Pipeline (Dat)
open Cert.KernelIdeal Cert.KernelIdeal.Gen Cert.Spec Cert.Row

variable (m : (ℓ : Loc nD τ sig) → Buf (Elt Ideal) ℓ)

/-- The arguments of the call, as core `c` has them. -/
def args (c : Dev nD) : Args where
  ati := m ((c : Thread nD τ).loc main_arg0)
  ar := m ((c : Thread nD τ).loc main_arg1)
  sw := m ((c : Thread nD τ).loc main_arg2)
  mask := m ((c : Thread nD τ).loc main_arg3)
  kw1 := m ((c : Thread nD τ).loc main_arg4)
  kb1 := m ((c : Thread nD τ).loc main_arg5)
  kw2 := m ((c : Thread nD τ).loc main_arg6)
  kb2 := m ((c : Thread nD τ).loc main_arg7)
  qw1 := m ((c : Thread nD τ).loc main_arg8)
  qb1 := m ((c : Thread nD τ).loc main_arg9)
  qw2 := m ((c : Thread nD τ).loc main_arg10)
  qb2 := m ((c : Thread nD τ).loc main_arg11)
  pw1 := m ((c : Thread nD τ).loc main_arg12)
  pb1 := m ((c : Thread nD τ).loc main_arg13)
  pw2 := m ((c : Thread nD τ).loc main_arg14)
  pb2 := m ((c : Thread nD τ).loc main_arg15)
  noise := m ((c : Thread nD τ).loc main_arg16)

/-- Where the blocks of the windows that move lie. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_18.index t = ![t.val, 0] ∧ win0_19.index t = ![t.val, 0]
    ∧ win0_20.index t = ![t.val, 0] ∧ win0_21.index t = ![t.val, 0] :=
  (by decide +kernel : ∀ t : Fin grid0.N, _)

/-- Where the blocks of the windows that stay lie. -/
theorem idx0 : ∀ t : Fin cfg0.N, win0_5.index t = ![0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![0, 0]
    ∧ win0_17.index t = ![0, 0] :=
  (by decide +kernel : ∀ t : Fin grid0.N, _)

variable (c : Dev nD) (t : Fin cfg0.N) (b : Fin 32) (s : Fin 128)

/-- A row's candidate words. -/
theorem sw_at (n : Fin 64) (e : Fin 128) (q : Fin 32768) (h : t.val * 32768 + q.val = (b.val * 128 + s.val) * 64 + n.val) :
    iblk m c 0 t (ix2 q e) = (args m c).sw (ix4 b s n e) := by
  show iblk m c 0 t (ix2 q e) = (m ((c : Thread nD τ).loc main_arg2) : FVec Ideal S32x128x64x128 .f32) (ix4 b s n e)
  blk_point [iblk, V, idx t]

/-- A row's embedding. -/
theorem ar_at (a : Fin 768) (q : Fin 512) (h : t.val * 512 + q.val = b.val * 128 + s.val) :
    iblk m c 1 t (ix2 q a) = (args m c).ar (ix3 b s a) := by
  show iblk m c 1 t (ix2 q a) = (m ((c : Thread nD τ).loc main_arg1) : FVec Ideal S32x128x768 .f32) (ix3 b s a)
  blk_point [iblk, V, idx t]

/-- A row's mask, as words. -/
theorem mask_at (n : Fin 64) (q : Fin 512) (h : t.val * 512 + q.val = b.val * 128 + s.val) :
    iblk m c 2 t (ix2 q n) = ((args m c).mask (ix3 b s n)).setWidth 32 := by
  show iblk m c 2 t (ix2 q n) = ((m ((c : Thread nD τ).loc main_arg3) : IVec S32x128x64 1) (ix3 b s n)).setWidth 32
  blk_simp [iblk, idx t]
  entry_read
  pointwise
  refine congrArg (BitVec.setWidth 32) ?_
  blk_ext [idx t]

/-- A row's noise. -/
theorem noise_at (n : Fin 64) (q : Fin 512) (h : t.val * 512 + q.val = b.val * 128 + s.val) :
    iblk m c 3 t (ix2 q n) = (args m c).noise (ix2 (flat b s) n) := by
  show iblk m c 3 t (ix2 q n) = (m ((c : Thread nD τ).loc main_arg16) : FVec Ideal S4096x64 .f32) (ix2 (flat b s) n)
  blk_point [iblk, V, idx t]
  exact h

/-- A row's action type. -/
theorem ati_at (q : Fin 512) (h : t.val * 512 + q.val = b.val * 128 + s.val) :
    iblk m c 4 t (ix2 q 0) = (args m c).ati (ix2 b s) := by
  show iblk m c 4 t (ix2 q 0) = (m ((c : Thread nD τ).loc main_arg0) : IVec S32x128 32) (ix2 b s)
  blk_point [iblk, V, idx t]

/-- The first matrix of the keys is read whole. -/
theorem kw1_eq : iblk m c 6 t = (args m c).kw1 := by
  show iblk m c 6 t = m ((c : Thread nD τ).loc main_arg4)
  blk_ext! [iblk, V, idx0 t]

/-- The second matrix of the keys is read whole. -/
theorem kw2_eq : iblk m c 8 t = (args m c).kw2 := by
  show iblk m c 8 t = m ((c : Thread nD τ).loc main_arg6)
  blk_ext! [iblk, V, idx0 t]

/-- The first matrix of the query is read whole. -/
theorem qw1_eq : iblk m c 10 t = (args m c).qw1 := by
  show iblk m c 10 t = m ((c : Thread nD τ).loc main_arg8)
  blk_ext! [iblk, V, idx0 t]

/-- The second matrix of the query is read whole. -/
theorem qw2_eq : iblk m c 12 t = (args m c).qw2 := by
  show iblk m c 12 t = m ((c : Thread nD τ).loc main_arg10)
  blk_ext! [iblk, V, idx0 t]

/-- The first matrix of the projection is read whole. -/
theorem pw1_eq : iblk m c 14 t = (args m c).pw1 := by
  show iblk m c 14 t = m ((c : Thread nD τ).loc main_arg12)
  blk_ext! [iblk, V, idx0 t]

/-- The second matrix of the projection is read whole. -/
theorem pw2_eq : iblk m c 16 t = (args m c).pw2 := by
  show iblk m c 16 t = m ((c : Thread nD τ).loc main_arg14)
  blk_ext! [iblk, V, idx0 t]

/-- The first biases of the query. -/
theorem qb1_at (j : Fin 128) : iblk m c 11 t (ix2 0 j) = (args m c).qb1 (ix1 j) := by
  show iblk m c 11 t (ix2 0 j) = (m ((c : Thread nD τ).loc main_arg9) : FVec Ideal S128 .f32) (ix1 j)
  blk_point [iblk, V, idx0 t]

/-- The second biases of the query. -/
theorem qb2_at (j : Fin 64) : iblk m c 13 t (ix2 0 j) = (args m c).qb2 (ix1 j) := by
  show iblk m c 13 t (ix2 0 j) = (m ((c : Thread nD τ).loc main_arg11) : FVec Ideal S64 .f32) (ix1 j)
  blk_point [iblk, V, idx0 t]

/-- The first biases of the projection. -/
theorem pb1_at (j : Fin 128) : iblk m c 15 t (ix2 0 j) = (args m c).pb1 (ix1 j) := by
  show iblk m c 15 t (ix2 0 j) = (m ((c : Thread nD τ).loc main_arg13) : FVec Ideal S128 .f32) (ix1 j)
  blk_point [iblk, V, idx0 t]

/-- The second biases of the projection. -/
theorem pb2_at (j : Fin 768) : iblk m c 17 t (ix2 0 j) = (args m c).pb2 (ix1 j) := by
  show iblk m c 17 t (ix2 0 j) = (m ((c : Thread nD τ).loc main_arg15) : FVec Ideal S768 .f32) (ix1 j)
  blk_point [iblk, V, idx0 t]

/-- A bit is the truth of what it says. -/
theorem bit_eq (x y : BitVec 1) (h : x = 1#1 ↔ y = 1#1) : x = y := by
  revert x y; decide

/-- The one word of the whole mask. -/
theorem any_iff' : (args m c).any = 1#1 ↔ ∃ i, (args m c).mask i = 1#1 := by
  unfold Args.any; split <;> simp [*]

/-- Whether any bit of the mask is set. -/
theorem any_at : iblk m c 5 t (ix1 0) = weight (args m c).any := by
  blk_simp [iblk, idx0 t]
  entry_read
  refine Eq.trans (uitofp_bit _) (congrArg weight (bit_eq _ _ ?_))
  rw [any_iff' m c]
  exact any_iff _ _ _ _ (fun _ => rfl) _ (fun i => funext fun a => a.elim0)

end Cert.Blocks
-- ==== Proof.Ref.lean ====
/- The reference, read at an index: each named part of it is a function of one row's data. -/
module

public import proofs.«01_k».proof.Proof.Gen.ReferenceIdeal
public import proofs.«01_k».proof.Proof.Scalars
public import proofs.«01_k».proof.Proof.Words
public import Idealize.ShloMosaic.Lib.Pointwise

@[expose] public section

set_option maxRecDepth 16384

noncomputable section

namespace Cert.Ref

open Idealize.ShloMosaic Idealize.ShloMosaic.TcCoe Idealize.SL.Sem
open Cert.ReferenceIdeal Cert.ReferenceIdeal.Facts₀ Cert.Row

/-! ## The parts -/

/-- The keys. -/
def keysR (sw : FVec Ideal S32x128x64x128 .f32) (w1 : FVec Ideal S128x128 .f32) (b1 : FVec Ideal S128 .f32)
    (w2 : FVec Ideal S64x128 .f32) (b2 : FVec Ideal S64 .f32) : FVec Ideal S32x128x64x64 .f32 :=
  addf
    (Host.dotGeneral dot_S32x128x64x128_S128x64_S32x128x64x64_3_0_012_1_n_n none
      (maximumf
        (addf
          (Host.dotGeneral dot_S32x128x64x128_S128x128_S32x128x64x128_3_0_012_1_n_n none sw
            (transpose S128x128 [1, 0] w1 transposes_S128x128_S128x128_1_0))
          (broadcastInDim S32x128x64x128 ![0, 1, 2, 3] bcast_S1x1x1x128_S32x128x64x128_0_1_2_3
            (broadcastInDim S1x1x1x128 ![3] bcast_S128_S1x1x1x128_3 b1)))
        (broadcastInDim S32x128x64x128 ![] bcast_S_S32x128x64x128 (constant S_ .f32 0x00000000#32)))
      (transpose S128x64 [1, 0] w2 transposes_S64x128_S128x64_1_0))
    (broadcastInDim S32x128x64x64 ![0, 1, 2, 3] bcast_S1x1x1x64_S32x128x64x64_0_1_2_3
      (broadcastInDim S1x1x1x64 ![3] bcast_S64_S1x1x1x64_3 b2))

/-- The queries. -/
def queryR (ar : FVec Ideal S32x128x768 .f32) (w1 : FVec Ideal S128x768 .f32) (b1 : FVec Ideal S128 .f32)
    (w2 : FVec Ideal S64x128 .f32) (b2 : FVec Ideal S64 .f32) : FVec Ideal S32x128x64 .f32 :=
  addf
    (Host.dotGeneral dot_S32x128x128_S128x64_S32x128x64_2_0_01_1_n_n none
      (maximumf
        (addf
          (Host.dotGeneral dot_S32x128x768_S768x128_S32x128x128_2_0_01_1_n_n none ar
            (transpose S768x128 [1, 0] w1 transposes_S128x768_S768x128_1_0))
          (broadcastInDim S32x128x128 ![0, 1, 2] bcast_S1x1x128_S32x128x128_0_1_2
            (broadcastInDim S1x1x128 ![2] bcast_S128_S1x1x128_2 b1)))
        (broadcastInDim S32x128x128 ![] bcast_S_S32x128x128 (constant S_ .f32 0x00000000#32)))
      (transpose S128x64 [1, 0] w2 transposes_S64x128_S128x64_1_0))
    (broadcastInDim S32x128x64 ![0, 1, 2] bcast_S1x1x64_S32x128x64_0_1_2
      (broadcastInDim S1x1x64 ![2] bcast_S64_S1x1x64_2 b2))

/-- The scores: the query against each key. -/
def logitsR (keys : FVec Ideal S32x128x64x64 .f32) (query : FVec Ideal S32x128x64 .f32) : FVec Ideal S32x128x64 .f32 :=
  shapeCast S32x128x64
    (Host.dotGeneral dot_S32x128x1x64_S32x128x64x64_S32x128x1x64_3_2_2_3_01_01 none
      (shapeCast S32x128x1x64 query shapeCasts_S32x128x64_S32x128x1x64)
      (transpose S32x128x64x64 [0, 1, 3, 2] keys transposes_S32x128x64x64_S32x128x64x64_0_1_3_2))
    shapeCasts_S32x128x1x64_S32x128x64

/-- The mask with the rows as one axis. -/
def maskR (mask : IVec S32x128x64 1) : IVec S4096x64 1 := shapeCast S4096x64 mask shapeCasts_S32x128x64_S4096x64

/-- Whether the mask has no bit set. -/
def noneR (m : IVec S4096x64 1) : IVec S_ 1 :=
  cmpi .eq (Host.reduce IntOp.addi (extui 32 m natLt_1_32) (constantI S_ 32 0#32) reducesTo_S4096x64_S_d0_1 h_S_)
    (constantI S_ 32 0#32)

/-- The mask in force. -/
def bitsR (mask : IVec S32x128x64 1) : IVec S32x128x64 1 :=
  shapeCast S32x128x64
    (select (broadcastInDim S4096x64 ![] bcast_S_S4096x64 (noneR (maskR mask)))
      (broadcastInDim S4096x64 ![] bcast_S_S4096x64 (constantI S_ 1 1#1)) (maskR mask))
    shapeCasts_S4096x64_S32x128x64

/-- The scores in force. -/
def maskedR (bits : IVec S32x128x64 1) (lg : FVec Ideal S32x128x64 .f32) : FVec Ideal S32x128x64 .f32 :=
  select bits lg (broadcastInDim S32x128x64 ![] bcast_S_S32x128x64 (constant S_ .f32 0xFF7FFFFF#32))

/-- The weights before normalising, of the scores in force. -/
def rawR (bits : IVec S32x128x64 1) (x : FVec Ideal S32x128x64 .f32) : FVec Ideal S32x128x64 .f32 :=
  mulf
    (Host.exp (subf x
      (broadcastInDim S32x128x64 ![0, 1, 2] bcast_S32x128x1_S32x128x64_0_1_2
        (broadcastInDim S32x128x1 ![0, 1] bcast_S32x128_S32x128x1_0_1
          (Host.reduce FloatOps.maximumf x (constant S_ .f32 0xFF800000#32) reducesTo_S32x128x64_S32x128_d2 h_S_)))))
    (uitofp .f32 bits)

/-- The weights normalised. -/
def normR (x : FVec Ideal S32x128x64 .f32) : FVec Ideal S32x128x64 .f32 :=
  Host.divf x
    (broadcastInDim S32x128x64 ![0, 1, 2] bcast_S32x128x1_S32x128x64_0_1_2
      (broadcastInDim S32x128x1 ![0, 1] bcast_S32x128_S32x128x1_0_1
        (Host.reduceAdd x (constant S_ .f32 0x00000000#32) reducesTo_S32x128x64_S32x128_d2 h_S_)))

/-- The masked softmax. -/
def policyR (bits : IVec S32x128x64 1) (lg : FVec Ideal S32x128x64 .f32) : FVec Ideal S32x128x64 .f32 :=
  normR (rawR bits (maskedR bits lg))

/-- The perturbed logarithm of the policy. -/
def scoreR (p : FVec Ideal S32x128x64 .f32) (noise : FVec Ideal S4096x64 .f32) : FVec Ideal S4096x64 .f32 :=
  addf
    (Host.log (addf (shapeCast S4096x64 p shapeCasts_S32x128x64_S4096x64)
      (broadcastInDim S4096x64 ![] bcast_S_S4096x64 (constant S_ .f32 0x0DA24260#32))))
    noise

/-- The candidates taken. -/
def choiceR (z : FVec Ideal S4096x64 .f32) : IVec S4096x1 32 :=
  shapeCast S4096x1
    (fun j => (Host.argReduce reducer_argmax_f32_i32 z (iotaInDim S4096x64 32 1) (constant S_ .f32 0xFF800000#32)
      (constantI S_ 32 0#32) reducesTo_S4096x64_S4096_d1 h_S_ j).2)
    shapeCasts_S4096_S4096x1

/-- A negative index counts from the end. -/
def wrapR (i : IVec S4096x1x1 32) : IVec S4096x1x1 32 :=
  select (cmpi .slt i (broadcastInDim S4096x1x1 ![] bcast_S_S4096x1x1 (constantI S_ 32 0#32)))
    (addi i (broadcastInDim S4096x1x1 ![] bcast_S_S4096x1x1 (constantI S_ 32 64#32))) i

/-- Whether an index is in range. -/
def insideR (i : IVec S4096x1x1 32) : IVec S4096x1 1 :=
  Host.reduce IntOp.andi
    (andi (cmpi .sge i (broadcastInDim S4096x1x1 ![] bcast_S_S4096x1x1 (constantI S_ 32 0#32)))
      (cmpi .sle i
        (broadcastInDim S4096x1x1 ![0, 1, 2] bcast_S1x1x1_S4096x1x1_0_1_2
          (broadcastInDim S1x1x1 ![2] bcast_S1_S1x1x1_2 (constantI S1 32 63#32)))))
    (constantI S_ 1 1#1) reducesTo_S4096x1x1_S4096x1_d2 h_S_

/-- One key of each row. -/
def takeR (keys : FVec Ideal S4096x64x64 .f32) (i : IVec S4096x1x1 32) : FVec Ideal S4096x1x64 .f32 :=
  select (broadcastInDim S4096x1x64 ![0, 1] bcast_S4096x1_S4096x1x64_0_1 (insideR i))
    (Host.gather gather_S4096x64x64_S4096x1x1_S4096x1x64_2_1_0_0_1_2_1164 keys i)
    (broadcastInDim S4096x1x64 ![] bcast_S_S4096x1x64 (constant S_ .f32 0x7FC00000#32))

/-- The keys of the candidates taken. -/
def embR (keys : FVec Ideal S32x128x64x64 .f32) (c : IVec S4096x1 32) : FVec Ideal S32x128x64 .f32 :=
  shapeCast S32x128x64
    (takeR (shapeCast S4096x64x64 keys shapeCasts_S32x128x64x64_S4096x64x64)
      (wrapR (broadcastInDim S4096x1x1 ![0, 1] bcast_S4096x1_S4096x1x1_0_1 c)))
    shapeCasts_S4096x1x64_S32x128x64

/-- The rows returned. -/
def outR (ati : IVec S32x128 32) (ar : FVec Ideal S32x128x768 .f32) (emb : FVec Ideal S32x128x64 .f32)
    (w1 : FVec Ideal S128x64 .f32) (b1 : FVec Ideal S128 .f32) (w2 : FVec Ideal S768x128 .f32) (b2 : FVec Ideal S768 .f32) :
    FVec Ideal S32x128x768 .f32 :=
  addf ar
    (mulf
      (broadcastInDim S32x128x768 ![0, 1, 2] bcast_S32x128x1_S32x128x768_0_1_2
        (uitofp .f32 (broadcastInDim S32x128x1 ![0, 1] bcast_S32x128_S32x128x1_0_1
          (cmpi .eq ati (broadcastInDim S32x128 ![] bcast_S_S32x128 (constantI S_ 32 1#32))))))
      (addf
        (Host.dotGeneral dot_S32x128x128_S128x768_S32x128x768_2_0_01_1_n_n none
          (maximumf
            (addf
              (Host.dotGeneral dot_S32x128x64_S64x128_S32x128x128_2_0_01_1_n_n none emb
                (transpose S64x128 [1, 0] w1 transposes_S128x64_S64x128_1_0))
              (broadcastInDim S32x128x128 ![0, 1, 2] bcast_S1x1x128_S32x128x128_0_1_2
                (broadcastInDim S1x1x128 ![2] bcast_S128_S1x1x128_2 b1)))
            (broadcastInDim S32x128x128 ![] bcast_S_S32x128x128 (constant S_ .f32 0x00000000#32)))
          (transpose S128x768 [1, 0] w2 transposes_S768x128_S128x768_1_0))
        (broadcastInDim S32x128x768 ![0, 1, 2] bcast_S1x1x768_S32x128x768_0_1_2
          (broadcastInDim S1x1x768 ![2] bcast_S768_S1x1x768_2 b2))))

/-! ## The parts at an index -/

variable (b : Fin 32) (s : Fin 128)

/-- A key. -/
theorem keysR_at (sw : FVec Ideal S32x128x64x128 .f32) (w1 : FVec Ideal S128x128 .f32) (b1 : FVec Ideal S128 .f32)
    (w2 : FVec Ideal S64x128 .f32) (b2 : FVec Ideal S64 .f32) (n k : Fin 64) :
    keysR sw w1 b1 w2 b2 (ix4 b s n k)
      = mlp (fun e => sw (ix4 b s n e)) (fun j e => w1 (ix2 j e)) (fun j => b1 (ix1 j)) (fun k j => w2 (ix2 k j))
          (fun k => b2 (ix1 k)) k := by
  pointwise [keysR, mlp]

/-- An entry of a query. -/
theorem queryR_at (ar : FVec Ideal S32x128x768 .f32) (w1 : FVec Ideal S128x768 .f32) (b1 : FVec Ideal S128 .f32)
    (w2 : FVec Ideal S64x128 .f32) (b2 : FVec Ideal S64 .f32) (k : Fin 64) :
    queryR ar w1 b1 w2 b2 (ix3 b s k)
      = mlp (fun e => ar (ix3 b s e)) (fun j e => w1 (ix2 j e)) (fun j => b1 (ix1 j)) (fun k j => w2 (ix2 k j))
          (fun k => b2 (ix1 k)) k := by
  pointwise [queryR, mlp]

/-- A score. -/
theorem logitsR_at (keys : FVec Ideal S32x128x64x64 .f32) (query : FVec Ideal S32x128x64 .f32) (n : Fin 64) :
    logitsR keys query (ix3 b s n) = logit (fun n k => keys (ix4 b s n k)) (fun k => query (ix3 b s k)) n := by
  pointwise [logitsR, logit]
  exact Finset.sum_congr rfl fun k _ => mul_comm _ _

/-- A policy entry. -/
theorem policyR_at (bits : IVec S32x128x64 1) (lg : FVec Ideal S32x128x64 .f32) (n : Fin 64) :
    policyR bits lg (ix3 b s n) = policy (fun n => bits (ix3 b s n)) (fun n => lg (ix3 b s n)) n := by
  pointwise [policyR, normR, rawR, maskedR, policy, raw, masked, top]
  simp only [select_bit, ofBits_bot, uitofp_bit]

/-- The count of the set bits is zero exactly when no bit is set. -/
theorem noneR_iff (mask : IVec S32x128x64 1) :
    noneR (shapeCast S4096x64 mask shapeCasts_S32x128x64_S4096x64) ix0 = 1#1 ↔ ¬ ∃ i, mask i = 1#1 := by
  have e : noneR (shapeCast S4096x64 mask shapeCasts_S32x128x64_S4096x64) ix0
      = BitVec.ofBool (Host.reduce IntOp.addi
          (fun i => (shapeCast S4096x64 mask shapeCasts_S32x128x64_S4096x64 i).setWidth 32) (constantI S_ 32 0#32)
          reducesTo_S4096x64_S_d0_1 h_S_ ix0 == 0#32) := rfl
  have ob : ∀ c : Bool, BitVec.ofBool c = 1#1 ↔ c = true := by decide
  have hs : Fintype.card S4096x64.Idx < 2 ^ 32 := by
    rw [Fintype.card_congr S4096x64.rowMajor, Fintype.card_fin]; decide
  have hz := count_zero_iff (shapeCast S4096x64 mask shapeCasts_S32x128x64_S4096x64) hs (constantI S_ 32 0#32)
    reducesTo_S4096x64_S_d0_1 h_S_ (fun _ => rfl) ix0 fun i => funext fun a => a.elim0
  rw [e, ob, beq_iff_eq, hz, not_exists]
  constructor
  · intro h i hi
    refine h ((Shape.reshapeEquiv shapeCasts_S32x128x64_S4096x64).symm i) ?_
    show mask _ = 1#1
    rw [Equiv.apply_symm_apply]; exact hi
  · intro h i; exact h _

/-- A mask bit in force. -/
theorem bitsR_at (mask : IVec S32x128x64 1) (any : BitVec 1) (h : any = 1#1 ↔ ∃ i, mask i = 1#1) (n : Fin 64) :
    bitsR mask (ix3 b s n) = live any (mask (ix3 b s n)) := by
  pointwise [bitsR, maskR, live]
  rw [select_bit]
  have hn := noneR_iff mask
  by_cases ha : any = 1#1
  · rw [if_pos ha, if_neg fun hc => hn.1 hc (h.1 ha)]
  · rw [if_neg ha, if_pos (hn.2 fun hc => ha (h.2 hc))]

/-- A perturbed logarithm. -/
theorem scoreR_at (p : FVec Ideal S32x128x64 .f32) (noise : FVec Ideal S4096x64 .f32) (n : Fin 64) (r : Fin 4096)
    (hr : r.val = b.val * 128 + s.val) :
    scoreR p noise (ix2 r n) = Ideal.log (p (ix3 b s n) + Ideal.ofBits .f32 0x0DA24260#32) + noise (ix2 r n) := by
  pointwise [scoreR]
  have e0 : (⟨r.val / 128, by omega⟩ : Fin 32) = b := Fin.ext (by show r.val / 128 = b.val; omega)
  have e1 : (⟨r.val % 128, by omega⟩ : Fin 128) = s := Fin.ext (by show r.val % 128 = s.val; omega)
  rw [e0, e1]

/-- A row of the result. -/
theorem outR_at (ati : IVec S32x128 32) (ar : FVec Ideal S32x128x768 .f32) (emb : FVec Ideal S32x128x64 .f32)
    (w1 : FVec Ideal S128x64 .f32) (b1 : FVec Ideal S128 .f32) (w2 : FVec Ideal S768x128 .f32) (b2 : FVec Ideal S768 .f32)
    (a : Fin 768) :
    outR ati ar emb w1 b1 w2 b2 (ix3 b s a)
      = out (fun a => ar (ix3 b s a)) (BitVec.ofBool (ati (ix2 b s) == 1#32)) (fun k => emb (ix3 b s k)) (fun j e => w1 (ix2 j e))
          (fun j => b1 (ix1 j)) (fun k j => w2 (ix2 k j)) (fun k => b2 (ix1 k)) a := by
  pointwise [outR, out, mlp]
  rw [uitofp_bit]; rfl

/-- The comparison of two (value, index) pairs: the greater value, and of equal values the lower index. -/
theorem reducer_eq (p q : EReal × BitVec 32) :
    reducer_argmax_f32_i32 (F := Ideal) p q = if q.1 < p.1 ∨ (p.1 = q.1 ∧ p.2.toInt < q.2.toInt) then p else q := by
  obtain ⟨x, i⟩ := p
  obtain ⟨y, j⟩ := q
  have e : reducer_argmax_f32_i32 (F := Ideal) (x, i) (y, j)
      = (Scalar.select (IntOp.ori (BitVec.ofBool (decide (y < x))) (BitVec.ofBool (decide (x ≠ x)))) x y,
          Scalar.select (IntOp.ori (IntOp.ori (BitVec.ofBool (decide (y < x))) (BitVec.ofBool (decide (x ≠ x))))
            (IntOp.andi (BitVec.ofBool (decide (x = y))) (BitVec.ofBool (i.slt j)))) i j) := rfl
  rw [e]
  have hs : i.slt j = decide (i.toInt < j.toInt) := rfl
  rw [hs]
  by_cases h1 : y < x
  · have h4 : ∀ c : BitVec 1, IntOp.ori (IntOp.ori (BitVec.ofBool true) (BitVec.ofBool false)) c = 1#1 := by decide
    simp only [h1, ne_eq, not_true, decide_true, decide_false, true_or, if_true]
    rw [select_bit, select_bit, if_pos (by decide), if_pos (h4 _)]
  · by_cases h2 : x = y
    · by_cases h3 : i.toInt < j.toInt <;> simp [h2, h3, Scalar.select, IntOp.ori, IntOp.andi]
    · simp [h1, h2, Scalar.select, IntOp.ori, IntOp.andi]

/-- The candidate taken is the first greatest one. -/
theorem choiceR_at (z : FVec Ideal S4096x64 .f32) (r : Fin 4096) :
    choiceR z (ix2 r 0) = BitVec.ofNat 32 (first fun n => z (ix2 r n)).val := by
  pointwise [choiceR]
  rw [Ideal.argReduce_eq_reduce2, Host.reduce2_eq_foldl_fiber]
  have e : ((constant (F := Ideal) S_ .f32 0xFF800000#32 (Shape.Idx.first h_S_), constantI S_ 32 0#32 (Shape.Idx.first h_S_))
      : EReal × BitVec 32) = (⊥, 0#32) := by
    show (Ideal.ofBits .f32 0xFF800000#32, 0#32) = _
    rw [ofBits_bot]
  rw [e]
  refine foldl_first _ reducer_eq _ _ fun p => ?_
  have hd : ∀ i : S4096x64.Idx, reducesTo_S4096x64_S4096_d1.drop i = ix1 r ↔ i 0 = r := by
    intro i
    constructor
    · intro h
      have := congrFun h 0
      exact Fin.ext (congrArg Fin.val this)
    · intro h; funext k
      obtain rfl : k = 0 := Subsingleton.elim _ _
      exact Fin.ext (congrArg Fin.val h)
  simp only [Host.argReduceFiber, List.mem_map, List.mem_filter, List.mem_finRange, true_and, decide_eq_true_eq, hd]
  constructor
  · rintro ⟨n, hn, rfl⟩
    refine ⟨(S4096x64.rowMajor.symm n) 1, ?_⟩
    have h2 : z (S4096x64.rowMajor.symm n) = z (ix2 r ((S4096x64.rowMajor.symm n) 1)) := by
      rw [← hn]; exact congrArg z (eq_ix2 _)
    exact Prod.ext h2 rfl
  · rintro ⟨n, rfl⟩
    refine ⟨S4096x64.rowMajor (ix2 r n), ?_, ?_⟩
    · rw [Equiv.symm_apply_apply]; rfl
    · rw [Equiv.symm_apply_apply]; rfl

/-- An index in range is left alone. -/
theorem wrapR_at (i : IVec S4096x1x1 32) (r : Fin 4096) (f : Fin 64) (hi : i (ix3 r 0 0) = BitVec.ofNat 32 f.val) :
    wrapR i (ix3 r 0 0) = BitVec.ofNat 32 f.val := by
  pointwise [wrapR]
  rw [hi]
  have h : ∀ f : Fin 64, Scalar.select (IntOp.cmpi .slt (BitVec.ofNat 32 f.val) 0#32) (IntOp.addi (BitVec.ofNat 32 f.val) 64#32)
      (BitVec.ofNat 32 f.val) = BitVec.ofNat 32 f.val := by decide
  exact h f

/-- Where the gather reads. -/
theorem gather_at (i : IVec S4096x1x1 32) (r : Fin 4096) (f k : Fin 64) (hi : i (ix3 r 0 0) = BitVec.ofNat 32 f.val) :
    gather_S4096x64x64_S4096x1x1_S4096x1x64_2_1_0_0_1_2_1164.operandIdx (ix3 r 0 k) i = ix3 r f k := by
  funext a
  apply Fin.ext
  fin_cases a
  · show 0 + r.val + 0 = r.val; omega
  · have e : ∀ c, gather_S4096x64x64_S4096x1x1_S4096x1x64_2_1_0_0_1_2_1164.siIdx (ix3 r 0 k) c = ix3 r 0 0 := by
      intro c
      have hc : c.val = 0 := by have := c.isLt; have h : c.val < 1 := this; omega
      funext b
      apply Fin.ext
      fin_cases b
      · rfl
      · rfl
      · exact hc
    show min (i _).toInt.toNat 63 + 0 + 0 = f.val
    rw [e, hi, ofNat_toInt _ (by omega)]
    omega
  · show 0 + 0 + k.val = k.val; omega

/-- One key of a row, taken at an index in range. -/
theorem takeR_at (keys : FVec Ideal S4096x64x64 .f32) (i : IVec S4096x1x1 32) (r : Fin 4096) (f k : Fin 64)
    (hi : i (ix3 r 0 0) = BitVec.ofNat 32 f.val) : takeR keys (wrapR i) (ix3 r 0 k) = keys (ix3 r f k) := by
  have hw := wrapR_at i r f hi
  pointwise [takeR, insideR]
  have hc : ∀ x : Fin 1, IntOp.andi (IntOp.cmpi .sge (wrapR i (ix3 r 0 x)) 0#32) (IntOp.cmpi .sle (wrapR i (ix3 r 0 x)) 63#32) = 1#1 := by
    intro x
    obtain rfl : x = 0 := Subsingleton.elim _ _
    rw [hw]
    have h : ∀ f : Fin 64, IntOp.andi (IntOp.cmpi .sge (BitVec.ofNat 32 f.val) 0#32)
        (IntOp.cmpi .sle (BitVec.ofNat 32 f.val) 63#32) = 1#1 := by decide
    exact h f
  simp only [hc]
  rw [select_bit, if_pos (by decide)]
  exact congrArg keys (gather_at _ r f k hw)

end Cert.Ref
-- ==== Proof.RefValue.lean ====
/- The reference's four results are the specification's, where the biases of the keys are zero. -/
module

public import proofs.«01_k».proof.Proof.Ref
public import proofs.«01_k».proof.Proof.Spec
public import Idealize.ShloMosaic.Lib.Pointwise
public import Idealize.ShloMosaic.Lib.Pipeline.ValueKit

@[expose] public section

set_option maxRecDepth 16384

noncomputable section

namespace Cert.RefValue

open Idealize.ShloMosaic Idealize.ShloMosaic.TcCoe Idealize.SL.Sem
open Cert.ReferenceIdeal Cert.ReferenceIdeal.Facts₀ Cert.Row Cert.Spec Cert.Ref

variable (A : Args)

/-- The keys, the biases kept. -/
def keys : FVec Ideal S32x128x64x64 .f32 := keysR A.sw A.kw1 A.kb1 A.kw2 A.kb2
/-- The scores. -/
def logits : FVec Ideal S32x128x64 .f32 := logitsR (keys A) (queryR A.ar A.qw1 A.qb1 A.qw2 A.qb2)
/-- The policy. -/
def policy : FVec Ideal S32x128x64 .f32 := policyR (bitsR A.mask) (logits A)
/-- The candidates. -/
def choice : IVec S4096x1 32 := choiceR (scoreR (policy A) A.noise)
/-- The new embeddings. -/
def out : FVec Ideal S32x128x768 .f32 := outR A.ati A.ar (embR (keys A) (choice A)) A.pw1 A.pb1 A.pw2 A.pb2

/-- The reference's first result. -/
def logitsRes : FVec Ideal S4096x64 .f32 := shapeCast S4096x64 (logits A) shapeCasts_S32x128x64_S4096x64
/-- The reference's second result. -/
def policyRes : FVec Ideal S4096x64 .f32 := shapeCast S4096x64 (policy A) shapeCasts_S32x128x64_S4096x64
/-- The reference's third result. -/
def choiceRes : IVec S4096x1 32 :=
  shapeCast S4096x1 (shapeCast S32x128x1 (choice A) shapeCasts_S4096x1_S32x128x1) shapeCasts_S32x128x1_S4096x1
/-- The reference's fourth result. -/
def outRes : FVec Ideal S4096x768 .f32 := shapeCast S4096x768 (out A) shapeCasts_S32x128x768_S4096x768

/-- The biases of the keys are zero. -/
structure Zero : Prop where
  kb1 : ∀ j, A.kb1 (ix1 j) = 0
  kb2 : ∀ k, A.kb2 (ix1 k) = 0

variable {A} (h : Zero A) (b : Fin 32) (s : Fin 128)

/-- The keys of the candidates taken are rows of the keys. -/
theorem embR_at (keys : FVec Ideal S32x128x64x64 .f32) (c : IVec S4096x1 32) (f k : Fin 64)
    (hc : c (ix2 (flat b s) 0) = BitVec.ofNat 32 f.val) : embR keys c (ix3 b s k) = keys (ix4 b s f k) := by
  have e1 : embR keys c (ix3 b s k)
      = takeR (shapeCast S4096x64x64 keys shapeCasts_S32x128x64x64_S4096x64x64)
        (wrapR (broadcastInDim S4096x1x1 ![0, 1] bcast_S4096x1_S4096x1x1_0_1 c)) (ix3 (flat b s) 0 k) := by
    pointwise [Ref.embR]; rfl
  rw [e1, takeR_at _ _ (flat b s) f k]
  · unfold flat; pointwise
    blk_ext
  · rw [← hc]; pointwise

/-- The word of the whole mask. -/
theorem any_iff' : A.any = 1#1 ↔ ∃ i, A.mask i = 1#1 := by
  unfold Args.any; split <;> simp [*]

include h

/-- The keys. -/
theorem key_at (n k : Fin 64) : keys A (ix4 b s n k) = A.key b s n k := by
  refine (keysR_at b s A.sw A.kw1 A.kb1 A.kw2 A.kb2 n k).trans ?_
  exact mlp_zero _ _ _ _ _ _ h.kb1 (h.kb2 k)

/-- The scores. -/
theorem logits_at (n : Fin 64) : logits A (ix3 b s n) = A.logits b s n := by
  refine (logitsR_at b s _ _ n).trans ?_
  simp only [key_at h, queryR_at]; rfl

/-- The policy. -/
theorem policy_at (n : Fin 64) : policy A (ix3 b s n) = A.policy b s n := by
  refine (policyR_at b s _ _ n).trans ?_
  simp only [logits_at h, bitsR_at b s A.mask A.any any_iff']; rfl

/-- The candidate. -/
theorem choice_at : choice A (ix2 (flat b s) 0) = BitVec.ofNat 32 (A.choice b s).val := by
  refine (choiceR_at _ (flat b s)).trans ?_
  simp only [scoreR_at b s _ _ _ (flat b s) rfl, policy_at h]; rfl

/-- The new embedding. -/
theorem out_at (a : Fin 768) : out A (ix3 b s a) = A.out b s a := by
  refine (outR_at b s _ _ _ _ _ _ _ a).trans ?_
  simp only [embR_at b s _ _ (A.choice b s) _ (choice_at h b s), key_at h]; rfl

/-- The first result. -/
theorem logits_eq : logitsRes A = A.logitsArr := by
  funext j
  idx_vars j
  pointwise [logitsRes, Args.logitsArr]
  exact logits_at h _ _ _

/-- The second result. -/
theorem policy_eq : policyRes A = A.policyArr := by
  funext j
  idx_vars j
  pointwise [policyRes, Args.policyArr]
  exact policy_at h _ _ _

/-- The third result. -/
theorem choice_eq : choiceRes A = A.choiceArr := by
  funext j
  idx_vars j
  have e1 : j1 = 0 := Subsingleton.elim _ _
  have e0 : flat (Args.outer j0) (Args.inner j0) = j0 := Fin.ext (by
    show j0.val / 128 * 128 + j0.val % 128 = j0.val
    omega)
  pointwise [choiceRes, Args.choiceArr]
  rw [e1, ← choice_at h, e0]

/-- The fourth result. -/
theorem out_eq : outRes A = A.outArr := by
  funext j
  idx_vars j
  pointwise [outRes, Args.outArr]
  exact out_at h _ _ _

end Cert.RefValue
-- ==== Proof.Assemble.lean ====
/- What the precondition says of the arguments. -/
module

public import proofs.«01_k».proof.Defs
public import proofs.«01_k».proof.Proof.Blocks
public import proofs.«01_k».proof.Proof.RefValue
public import proofs.«01_k».proof.Proof.Gen.Pre_key_biases_zero
public import Idealize.ShloMosaic.Lib.ReduceAll

@[expose] public section

set_option maxRecDepth 16384

noncomputable section

namespace Cert.Assemble

open Idealize.ShloMosaic Idealize.ShloMosaic.TcCoe Idealize.SL.Sem
open Cert.Spec Cert.Blocks

/-- An entry that compares equal to zero is zero. -/
theorem eq_zero_of_oeq (x : EReal) (h : FloatOps.cmpf (F := Ideal) (φ := .f32) .oeq x (FloatOps.ofBits .f32 0x00000000#32) = 1#1) : x = 0 := by
  have ob : ∀ c : Bool, BitVec.ofBool c = 1#1 → c = true := by decide
  have z : (FloatOps.ofBits (F := Ideal) .f32 0x00000000#32 : EReal) = 0 := Ideal.ofBits_zero .f32
  rw [z] at h
  exact of_decide_eq_true (ob _ h)

variable (m : (ℓ : Loc Cert.KernelIdeal.nD Cert.KernelIdeal.τ Cert.KernelIdeal.sig) → Buf (Elt Ideal) ℓ) (c : Dev Cert.KernelIdeal.nD)

/-- The precondition makes the biases of the keys zero. -/
theorem zero (h : Cert.Pre_KernelIdeal_key_biases_zero m) : RefValue.Zero (args m c) := by
  have hb : ∀ x y : BitVec 1, IntOp.andi x y = 1#1 → x = 1#1 ∧ y = 1#1 := by decide
  have hc := h c
  have h0 := congrFun hc ix0
  obtain ⟨h1, h2⟩ := hb _ _ h0
  haveI : Subsingleton Cert.Pre_key_biases_zero.S_.Idx := ⟨fun a b => funext fun i => i.elim0⟩
  exact ⟨fun j => eq_zero_of_oeq _ (Host.reduce_andi_all _ _ _ _ _ h1 (ix1 j)),
    fun k => eq_zero_of_oeq _ (Host.reduce_andi_all _ _ _ _ _ h2 (ix1 k))⟩

end Cert.Assemble
-- ==== Proof.Chunk.lean ====
/- One half of a grid point: 256 rows. Each stored vector, read at an index, is a function of one row's data. -/
module

public import proofs.«01_k».proof.Proof.Gen.KernelIdeal.Skeleton
public import proofs.«01_k».proof.Proof.Scalars
public import Idealize.ShloMosaic.Lib.Pointwise

@[expose] public section

set_option maxRecDepth 16384

noncomputable section

namespace Cert.Chunk

open Idealize.ShloMosaic Idealize.ShloMosaic.TcCoe Idealize.SL.Sem
open Cert.KernelIdeal Cert.KernelIdeal.Gen Cert.Row

/-- The keys of a half, at row `r`, candidate `n`, entry `k`. -/
theorem keys_at (v0 : FVec Ideal S16384x128 .f32) (v2 : FVec Ideal S128x128 .f32) (v6 : FVec Ideal S64x128 .f32)
    (r : Fin 256) (n k : Fin 64) (q : Fin 16384) (hq : q.val = r.val * 64 + n.val) :
    k0_pay2 (F := Ideal) v0 v2 v6 (ix3 r n k)
      = mlpPlain (fun e => v0 (ix2 q e)) (fun j e => v2 (ix2 j e)) (fun k j => v6 (ix2 k j)) k := by
  pointwise [k0_pay2, mlpPlain]
  have e : (⟨r.val * 64 + n.val, by omega⟩ : Fin 16384) = q := Fin.ext hq.symm
  rw [e]

/-- The scores of a half, at row `r` and candidate `n`. -/
theorem logits_at (v0 : FVec Ideal S16384x128 .f32) (v2 : FVec Ideal S128x128 .f32) (v6 : FVec Ideal S64x128 .f32)
    (v9 : FVec Ideal S256x768 .f32) (v11 : FVec Ideal S128x768 .f32) (v13 : FVec Ideal S1x128 .f32) (v19 : FVec Ideal S64x128 .f32)
    (v21 : FVec Ideal S1x64 .f32) (r : Fin 256) (n : Fin 64) :
    k0_pay4 (F := Ideal) v0 v2 v6 v9 v11 v13 v19 v21 (ix2 r n)
      = logit (fun n k => k0_pay2 (F := Ideal) v0 v2 v6 (ix3 r n k))
          (fun k => mlp (fun e => v9 (ix2 r e)) (fun j e => v11 (ix2 j e)) (fun j => v13 (ix2 0 j)) (fun k j => v19 (ix2 k j))
            (fun k => v21 (ix2 0 k)) k) n := by
  pointwise [k0_pay4, k0_pay3, logit, mlp]

/-- The policy of a half. -/
theorem policy_at (v28 : FVec Ideal S256x64 .f32) (v30 : IVec S256x64 32) (v35 : EReal) (r : Fin 256) (n : Fin 64)
    (any : BitVec 1) (own : Fin 64 → BitVec 1) (ha : v35 = weight any) (ho : ∀ n, v30 (ix2 r n) = (own n).setWidth 32) :
    k0_pay5 (F := Ideal) v28 v30 v35 (ix2 r n) = policy (fun n => live any (own n)) (fun n => v28 (ix2 r n)) n := by
  pointwise [k0_pay5]
  simp only [ho, ha, max_weight, weight_pos, ofBits_bot]
  rfl

/-- The candidate taken. -/
theorem index_at (v28 : FVec Ideal S256x64 .f32) (v30 : IVec S256x64 32) (v35 : EReal) (v57 : FVec Ideal S256x64 .f32) (r : Fin 256)
    (p : Fin 64 → EReal) (hp : ∀ n, k0_pay5 (F := Ideal) v28 v30 v35 (ix2 r n) = p n) :
    k0_pay6 (F := Ideal) v28 v30 v35 v57 (ix1 r)
      = BitVec.ofNat 32 (first fun n => Ideal.log (p n + Ideal.ofBits .f32 0x0DA24260#32) + v57 (ix2 r n)).val := by
  pointwise [k0_pay6]
  simp only [hp, ofBits_bot]
  exact fold_min_first _

/-- The rows stored. -/
theorem out_at (v8 : FVec Ideal S256x64x64 .f32) (v10 : FVec Ideal S256x768 .f32) (v71 : IVec S256x64 32)
    (v78 : FVec Ideal S128x64 .f32) (v80 : FVec Ideal S1x128 .f32) (v86 : FVec Ideal S768x128 .f32) (v88 : FVec Ideal S1x768 .f32)
    (v92 : IVec S256x1 32) (r : Fin 256) (a : Fin 768) (f : Fin 64) (hf : ∀ n : Fin 64, v71 (ix2 r n) = BitVec.ofNat 32 f.val) :
    k0_pay9 (F := Ideal) v8 v10 (iota .tc S256x64 32 [1] iota_S256x64_d1_w32) v71 v78 v80 v86 v88 v92 (ix2 r a)
      = out (fun a => v10 (ix2 r a)) (BitVec.ofBool (v92 (ix2 r 0) == 1#32)) (fun k => v8 (ix3 r f k)) (fun j e => v78 (ix2 j e))
          (fun j => v80 (ix2 0 j)) (fun k j => v86 (ix2 k j)) (fun k => v88 (ix2 0 k)) a := by
  pointwise [k0_pay9, out, mlp]
  simp only [hf, sum_onehot]
  rw [sitofp_bit]; rfl

end Cert.Chunk
-- ==== Proof.Half.lean ====
/- One half of a grid point computes the specification's functions, once its inputs are a row's data. -/
module

public import proofs.«01_k».proof.Proof.Chunk
public import proofs.«01_k».proof.Proof.Spec

@[expose] public section

set_option maxRecDepth 16384

noncomputable section

namespace Cert.Half

open Idealize.ShloMosaic Idealize.ShloMosaic.TcCoe Idealize.SL.Sem
open Cert.KernelIdeal Cert.KernelIdeal.Gen Cert.Row Cert.Spec

/-- What a half reads. -/
structure Loads where
  sw : FVec Ideal S16384x128 .f32
  kw1 : FVec Ideal S128x128 .f32
  kw2 : FVec Ideal S64x128 .f32
  ar : FVec Ideal S256x768 .f32
  qw1 : FVec Ideal S128x768 .f32
  qb1 : FVec Ideal S1x128 .f32
  qw2 : FVec Ideal S64x128 .f32
  qb2 : FVec Ideal S1x64 .f32
  mask : IVec S256x64 32
  any : EReal
  noise : FVec Ideal S256x64 .f32
  pw1 : FVec Ideal S128x64 .f32
  pb1 : FVec Ideal S1x128 .f32
  pw2 : FVec Ideal S768x128 .f32
  pb2 : FVec Ideal S1x768 .f32
  ati : IVec S256x1 32

namespace Loads

variable (L : Loads)

/-- The scores stored. -/
def logits : FVec Ideal S256x64 .f32 := k0_pay4 L.sw L.kw1 L.kw2 L.ar L.qw1 L.qb1 L.qw2 L.qb2
/-- The policy stored. -/
def policy : FVec Ideal S256x64 .f32 := k0_pay5 L.logits L.mask L.any
/-- The candidates stored. -/
def choice : IVec S256x1 32 := k0_pay7 (F := Ideal) L.logits L.mask L.any L.noise
/-- The embeddings stored. -/
def out : FVec Ideal S256x768 .f32 :=
  k0_pay9 (k0_pay2 L.sw L.kw1 L.kw2) (k0_pay3 L.ar) (iota .tc S256x64 32 [1] iota_S256x64_d1_w32)
    (k0_pay8 (F := Ideal) L.logits L.mask L.any L.noise) L.pw1 L.pb1 L.pw2 L.pb2 L.ati

/-- The second half stores the same scores of what it reads. -/
theorem logits' : k0_pay13 (F := Ideal) (k0_pay10 L.sw L.kw1) L.kw2 L.ar L.qw1 L.qb1 L.qw2 L.qb2 = L.logits := rfl

/-- The second half stores the same policy. -/
theorem policy' : k0_pay16 (F := Ideal) L.logits (k0_pay14 (F := Ideal) L.mask L.any) k0_pay15 = L.policy := rfl

/-- The second half stores the same candidates. -/
theorem choice' : k0_pay18 (F := Ideal) L.logits (k0_pay14 (F := Ideal) L.mask L.any) k0_pay15 L.noise = L.choice := rfl

/-- The second half stores the same embeddings. -/
theorem out' : k0_pay1 (F := Ideal) (k0_pay12 L.ar)
    (k0_pay19 (k0_pay11 (k0_pay10 L.sw L.kw1) L.kw2) L.logits (k0_pay14 (F := Ideal) L.mask L.any) k0_pay15 L.noise L.pw1)
    L.pb1 L.pw2 L.pb2 L.ati = L.out := rfl

/-- What a half reads at its row `r` is the data of row `(b, s)` of the call. -/
structure Row (A : Args) (b : Fin 32) (s : Fin 128) (r : Fin 256) : Prop where
  sw : ∀ (n : Fin 64) (e : Fin 128) (q : Fin 16384), q.val = r.val * 64 + n.val → L.sw (ix2 q e) = A.sw (ix4 b s n e)
  kw1 : L.kw1 = A.kw1
  kw2 : L.kw2 = A.kw2
  ar : ∀ a, L.ar (ix2 r a) = A.ar (ix3 b s a)
  qw1 : L.qw1 = A.qw1
  qb1 : ∀ j, L.qb1 (ix2 0 j) = A.qb1 (ix1 j)
  qw2 : L.qw2 = A.qw2
  qb2 : ∀ j, L.qb2 (ix2 0 j) = A.qb2 (ix1 j)
  mask : ∀ n, L.mask (ix2 r n) = (A.mask (ix3 b s n)).setWidth 32
  any : L.any = weight A.any
  noise : ∀ n, L.noise (ix2 r n) = A.noise (ix2 (flat b s) n)
  pw1 : L.pw1 = A.pw1
  pb1 : ∀ j, L.pb1 (ix2 0 j) = A.pb1 (ix1 j)
  pw2 : L.pw2 = A.pw2
  pb2 : ∀ j, L.pb2 (ix2 0 j) = A.pb2 (ix1 j)
  ati : L.ati (ix2 r 0) = A.ati (ix2 b s)

variable {L} {A : Args} {b : Fin 32} {s : Fin 128} {r : Fin 256} (h : L.Row A b s r)

include h

/-- The keys of a row. -/
theorem Row.key_at (n k : Fin 64) : k0_pay2 (F := Ideal) L.sw L.kw1 L.kw2 (ix3 r n k) = A.key b s n k := by
  refine (Chunk.keys_at _ _ _ r n k ⟨r.val * 64 + n.val, by omega⟩ rfl).trans ?_
  have e : ∀ e, L.sw (ix2 ⟨r.val * 64 + n.val, by omega⟩ e) = A.sw (ix4 b s n e) := fun e => h.sw n e _ rfl
  simp only [e, h.kw1, h.kw2]; rfl

/-- The scores of a row. -/
theorem Row.logits_at (n : Fin 64) : L.logits (ix2 r n) = A.logits b s n := by
  refine (Chunk.logits_at _ _ _ _ _ _ _ _ r n).trans ?_
  simp only [h.key_at, h.ar, h.qw1, h.qb1, h.qw2, h.qb2]; rfl

/-- The policy of a row. -/
theorem Row.policy_at (n : Fin 64) : L.policy (ix2 r n) = A.policy b s n := by
  refine (Chunk.policy_at L.logits L.mask L.any r n A.any (fun n => A.mask (ix3 b s n)) h.any h.mask).trans ?_
  simp only [h.logits_at]; rfl

/-- The candidate of a row. -/
theorem Row.index_at : k0_pay6 (F := Ideal) L.logits L.mask L.any L.noise (ix1 r) = BitVec.ofNat 32 (A.choice b s).val := by
  refine (Chunk.index_at L.logits L.mask L.any L.noise r (A.policy b s) fun n => h.policy_at n).trans ?_
  simp only [h.noise]; rfl

/-- The candidate of a row, as stored. -/
theorem Row.choice_at : L.choice (ix2 r 0) = BitVec.ofNat 32 (A.choice b s).val := by
  refine Eq.trans ?_ h.index_at
  unfold choice; pointwise [k0_pay7]

/-- The embedding of a row. -/
theorem Row.out_at (a : Fin 768) : L.out (ix2 r a) = A.out b s a := by
  refine (Chunk.out_at _ _ _ _ _ _ _ _ r a (A.choice b s) fun n => ?_).trans ?_
  · refine Eq.trans ?_ h.index_at
    pointwise [k0_pay8, k0_pay7]
  · have e : ∀ a, k0_pay3 (F := Ideal) L.ar (ix2 r a) = A.ar (ix3 b s a) := fun a => by
      rw [← h.ar a]; pointwise [k0_pay3]
    simp only [e, h.ati, h.key_at, h.pw1, h.pb1, h.pw2, h.pb2]; rfl

end Loads

end Cert.Half
-- ==== Proof.Array.lean ====
/- The four arrays after the run hold the specification's functions of the arguments. -/
module

public import proofs.«01_k».proof.Proof.Blocks
public import proofs.«01_k».proof.Proof.Half

@[expose] public section

set_option maxRecDepth 16384

noncomputable section

namespace Cert.Array

open Idealize.ShloMosaic Idealize.ShloMosaic.TcCoe Idealize.SL.Sem
open Idealize.ShloMosaic.Pipeline (Dat)
open Cert.KernelIdeal Cert.KernelIdeal.Gen Cert.Spec Cert.Row Cert.Blocks Cert.Half

variable (m : (ℓ : Loc nD τ sig) → Buf (Elt Ideal) ℓ) (c : Dev nD) (t : Fin cfg0.N)

/-- The blocks that a grid point reads. -/
structure Blk where
  sw : FVec Ideal S32768x128 .f32
  ar : FVec Ideal S512x768 .f32
  mask : IVec S512x64 32
  noise : FVec Ideal S512x64 .f32
  ati : IVec S512x1 32
  any : FVec Ideal S1 .f32
  kw1 : FVec Ideal S128x128 .f32
  kw2 : FVec Ideal S64x128 .f32
  qw1 : FVec Ideal S128x768 .f32
  qb1 : FVec Ideal S1x128 .f32
  qw2 : FVec Ideal S64x128 .f32
  qb2 : FVec Ideal S1x64 .f32
  pw1 : FVec Ideal S128x64 .f32
  pb1 : FVec Ideal S1x128 .f32
  pw2 : FVec Ideal S768x128 .f32
  pb2 : FVec Ideal S1x768 .f32

/-- The blocks of point `t`. -/
def blk : Blk where
  sw := iblk m c 0 t
  ar := iblk m c 1 t
  mask := iblk m c 2 t
  noise := iblk m c 3 t
  ati := iblk m c 4 t
  any := iblk m c 5 t
  kw1 := iblk m c 6 t
  kw2 := iblk m c 8 t
  qw1 := iblk m c 10 t
  qb1 := iblk m c 11 t
  qw2 := iblk m c 12 t
  qb2 := iblk m c 13 t
  pw1 := iblk m c 14 t
  pb1 := iblk m c 15 t
  pw2 := iblk m c 16 t
  pb2 := iblk m c 17 t

/-- What the half that begins at row `o` of the block reads. -/
def loads (B : Blk) (o p : ℕ) (h0 : ∀ a, (![p, 0] : Fin 2 → Nat) a + S16384x128.size a ≤ S32768x128.size a)
    (h1 : ∀ a, (![o, 0] : Fin 2 → Nat) a + S256x768.size a ≤ S512x768.size a)
    (h2 : ∀ a, (![o, 0] : Fin 2 → Nat) a + S256x64.size a ≤ S512x64.size a)
    (h3 : ∀ a, (![o, 0] : Fin 2 → Nat) a + S256x1.size a ≤ S512x1.size a) : Loads where
  sw := View.ld (Val := Elt Ideal) (S := S32768x128) (e' := .f32) B.sw (Rect.unit ![p, 0] ![16384, 128] h0)
  ar := View.ld (Val := Elt Ideal) (S := S512x768) (e' := .f32) B.ar (Rect.unit ![o, 0] ![256, 768] h1)
  mask := View.ld (Val := Elt Ideal) (S := S512x64) (e' := .i32) B.mask (Rect.unit ![o, 0] ![256, 64] h2)
  noise := View.ld (Val := Elt Ideal) (S := S512x64) (e' := .f32) B.noise (Rect.unit ![o, 0] ![256, 64] h2)
  ati := View.ld (Val := Elt Ideal) (S := S512x1) (e' := .i32) B.ati (Rect.unit ![o, 0] ![256, 1] h3)
  any := View.ld (Val := Elt Ideal) (S := S1) (e' := .f32) B.any (Rect.unit ![0] ![1] inb_S1_S1_0) (Shape.Idx.first (s := S1) (by decide))
  kw1 := B.kw1
  kw2 := B.kw2
  qw1 := B.qw1
  qb1 := B.qb1
  qw2 := B.qw2
  qb2 := B.qb2
  pw1 := B.pw1
  pb1 := B.pb1
  pw2 := B.pw2
  pb2 := B.pb2

/-- A load of a rectangle of rows, at an index. -/
theorem ld_at {a b n : ℕ} {e : EltTy} (X : (⟨2, ![a, b]⟩ : Shape).Idx → Elt Ideal e) (o : ℕ)
    (h : ∀ i, (![o, 0] : Fin 2 → Nat) i + (![n, b] : Fin 2 → Nat) i ≤ (⟨2, ![a, b]⟩ : Shape).size i)
    (r : Fin n) (k : Fin b) (q : Fin a) (hq : q.val = o + r.val) :
    View.ld (S := ⟨2, ![a, b]⟩) X (Rect.unit (s := ⟨2, ![a, b]⟩) ![o, 0] ![n, b] h) (ix2 r k) = X (ix2 q k) := by
  refine View.ld_unit_apply_of _ _ _ _ _ _ fun i => ?_
  match i with
  | ⟨0, _⟩ => exact hq
  | ⟨1, _⟩ => exact (Nat.zero_add _).symm

section

variable (B : Blk)
    (o p : ℕ) (h0 : ∀ a, (![p, 0] : Fin 2 → Nat) a + S16384x128.size a ≤ S32768x128.size a)
    (h1 : ∀ a, (![o, 0] : Fin 2 → Nat) a + S256x768.size a ≤ S512x768.size a)
    (h2 : ∀ a, (![o, 0] : Fin 2 → Nat) a + S256x64.size a ≤ S512x64.size a)
    (h3 : ∀ a, (![o, 0] : Fin 2 → Nat) a + S256x1.size a ≤ S512x1.size a)

/-- The candidate words that a half reads are rows of the block. -/
theorem loads_sw (r : Fin 16384) (k : Fin 128) (q : Fin 32768) (hq : q.val = p + r.val) :
    (loads B o p h0 h1 h2 h3).sw (ix2 r k) = B.sw (ix2 q k) :=
  ld_at (e := .f32) B.sw p h0 r k q hq

/-- The embeddings that a half reads are rows of the block. -/
theorem loads_ar (r : Fin 256) (k : Fin 768) (q : Fin 512) (hq : q.val = o + r.val) :
    (loads B o p h0 h1 h2 h3).ar (ix2 r k) = B.ar (ix2 q k) :=
  ld_at (e := .f32) B.ar o h1 r k q hq

/-- The mask words that a half reads are rows of the block. -/
theorem loads_mask (r : Fin 256) (k : Fin 64) (q : Fin 512) (hq : q.val = o + r.val) :
    (loads B o p h0 h1 h2 h3).mask (ix2 r k) = B.mask (ix2 q k) :=
  ld_at (e := .i32) B.mask o h2 r k q hq

/-- The noise that a half reads is rows of the block. -/
theorem loads_noise (r : Fin 256) (k : Fin 64) (q : Fin 512) (hq : q.val = o + r.val) :
    (loads B o p h0 h1 h2 h3).noise (ix2 r k) = B.noise (ix2 q k) :=
  ld_at (e := .f32) B.noise o h2 r k q hq

/-- The action types that a half reads are rows of the block. -/
theorem loads_ati (r : Fin 256) (k : Fin 1) (q : Fin 512) (hq : q.val = o + r.val) :
    (loads B o p h0 h1 h2 h3).ati (ix2 r k) = B.ati (ix2 q k) :=
  ld_at (e := .i32) B.ati o h3 r k q hq

/-- The flag that a half reads is the block's one entry. -/
theorem loads_any : (loads B o p h0 h1 h2 h3).any = B.any (ix1 0) := by
  refine View.ld_unit_apply_of (Val := Elt Ideal) (e := .f32) (S := S1) B.any _ _ _ _ (ix1 0) fun a => ?_
  match a with
  | ⟨0, _⟩ => rfl

end

/-- What the first half reads. -/
abbrev lo : Loads := loads (blk m c t) 0 0 inb_S32768x128_S16384x128_0_0 inb_S512x768_S256x768_0_0 inb_S512x64_S256x64_0_0 inb_S512x1_S256x1_0_0

/-- What the second half reads. -/
abbrev hi : Loads := loads (blk m c t) 256 16384 inb_S32768x128_S16384x128_16384_0 inb_S512x768_S256x768_256_0 inb_S512x64_S256x64_256_0
  inb_S512x1_S256x1_256_0

variable (o p : ℕ) (h0 : ∀ a, (![p, 0] : Fin 2 → Nat) a + S16384x128.size a ≤ S32768x128.size a)
    (h1 : ∀ a, (![o, 0] : Fin 2 → Nat) a + S256x768.size a ≤ S512x768.size a)
    (h2 : ∀ a, (![o, 0] : Fin 2 → Nat) a + S256x64.size a ≤ S512x64.size a)
    (h3 : ∀ a, (![o, 0] : Fin 2 → Nat) a + S256x1.size a ≤ S512x1.size a) (ho : o ≤ 256) (hp : p = o * 64)
    (b : Fin 32) (s : Fin 128) (r : Fin 256) (hr : t.val * 512 + (o + r.val) = b.val * 128 + s.val)

include ho hp hr

/-- The candidate words of row `r` of a half. -/
theorem ld_sw (n : Fin 64) (e : Fin 128) (q : Fin 16384) (hq : q.val = r.val * 64 + n.val) :
    (loads (blk m c t) o p h0 h1 h2 h3).sw (ix2 q e) = (args m c).sw (ix4 b s n e) := by
  have h : t.val * 32768 + (p + q.val) = (b.val * 128 + s.val) * 64 + n.val := by omega
  exact (loads_sw (blk m c t) o p h0 h1 h2 h3 q e ⟨p + q.val, by omega⟩ rfl).trans (sw_at m c t b s n e _ h)

omit hp

/-- The embedding of row `r` of a half. -/
theorem ld_ar (a : Fin 768) : (loads (blk m c t) o p h0 h1 h2 h3).ar (ix2 r a) = (args m c).ar (ix3 b s a) :=
  (loads_ar (blk m c t) o p h0 h1 h2 h3 r a ⟨o + r.val, by omega⟩ rfl).trans (ar_at m c t b s a _ hr)

/-- The mask words of row `r` of a half. -/
theorem ld_mask (n : Fin 64) : (loads (blk m c t) o p h0 h1 h2 h3).mask (ix2 r n) = ((args m c).mask (ix3 b s n)).setWidth 32 :=
  (loads_mask (blk m c t) o p h0 h1 h2 h3 r n ⟨o + r.val, by omega⟩ rfl).trans (mask_at m c t b s n _ hr)

/-- The noise of row `r` of a half. -/
theorem ld_noise (n : Fin 64) : (loads (blk m c t) o p h0 h1 h2 h3).noise (ix2 r n) = (args m c).noise (ix2 (flat b s) n) :=
  (loads_noise (blk m c t) o p h0 h1 h2 h3 r n ⟨o + r.val, by omega⟩ rfl).trans (noise_at m c t b s n _ hr)

/-- The action type of row `r` of a half. -/
theorem ld_ati : (loads (blk m c t) o p h0 h1 h2 h3).ati (ix2 r 0) = (args m c).ati (ix2 b s) :=
  (loads_ati (blk m c t) o p h0 h1 h2 h3 r 0 ⟨o + r.val, by omega⟩ rfl).trans (ati_at m c t b s _ hr)

omit ho hr

/-- The flag that a half reads. -/
theorem ld_any : (loads (blk m c t) o p h0 h1 h2 h3).any = weight (args m c).any :=
  (loads_any (blk m c t) o p h0 h1 h2 h3).trans (any_at m c t)

include ho hp hr

/-- The half's row `r` is row `(b, s)` of the call. -/
theorem loads_row : (loads (blk m c t) o p h0 h1 h2 h3).Row (args m c) b s r where
  sw := ld_sw m c t o p h0 h1 h2 h3 ho hp b s r hr
  kw1 := kw1_eq m c t
  kw2 := kw2_eq m c t
  ar := ld_ar m c t o p h0 h1 h2 h3 ho b s r hr
  qw1 := qw1_eq m c t
  qb1 := qb1_at m c t
  qw2 := qw2_eq m c t
  qb2 := qb2_at m c t
  mask := ld_mask m c t o p h0 h1 h2 h3 ho b s r hr
  any := ld_any m c t o p h0 h1 h2 h3
  noise := ld_noise m c t o p h0 h1 h2 h3 ho b s r hr
  pw1 := pw1_eq m c t
  pb1 := pb1_at m c t
  pw2 := pw2_eq m c t
  pb2 := pb2_at m c t
  ati := ld_ati m c t o p h0 h1 h2 h3 ho b s r hr

omit hr

/-- The same, at the array's own row. -/
theorem loads_at (r : Fin 256) (j : Fin 4096) (hj : j.val = t.val * 512 + (o + r.val)) :
    (loads (blk m c t) o p h0 h1 h2 h3).Row (args m c) (Args.outer j) (Args.inner j) r :=
  loads_row m c t o p h0 h1 h2 h3 ho hp _ _ r (by
    show _ = j.val / 128 * 128 + j.val % 128
    omega)

/-- A half's scores, where they lie in the array. -/
theorem logits_at (x : S256x64.Idx) (j : S4096x64.Idx) (hj0 : (j 0 : ℕ) = t.val * 512 + (o + (x 0 : ℕ)))
    (hj1 : (j 1 : ℕ) = x 1) : (loads (blk m c t) o p h0 h1 h2 h3).logits x = (args m c).logitsArr j := by
  idx_vars x
  idx_vars j
  obtain rfl : j1 = x1 := Fin.ext hj1
  exact (loads_at m c t o p h0 h1 h2 h3 ho hp x0 j0 hj0).logits_at _

/-- A half's policy, where it lies in the array. -/
theorem policy_at (x : S256x64.Idx) (j : S4096x64.Idx) (hj0 : (j 0 : ℕ) = t.val * 512 + (o + (x 0 : ℕ)))
    (hj1 : (j 1 : ℕ) = x 1) : (loads (blk m c t) o p h0 h1 h2 h3).policy x = (args m c).policyArr j := by
  idx_vars x
  idx_vars j
  obtain rfl : j1 = x1 := Fin.ext hj1
  exact (loads_at m c t o p h0 h1 h2 h3 ho hp x0 j0 hj0).policy_at _

/-- A half's candidates, where they lie in the array. -/
theorem choice_at (x : S256x1.Idx) (j : S4096x1.Idx) (hj0 : (j 0 : ℕ) = t.val * 512 + (o + (x 0 : ℕ))) :
    (loads (blk m c t) o p h0 h1 h2 h3).choice x = (args m c).choiceArr j := by
  idx_vars x
  idx_vars j
  obtain rfl : x1 = 0 := Subsingleton.elim _ _
  exact (loads_at m c t o p h0 h1 h2 h3 ho hp x0 j0 hj0).choice_at

/-- A half's embeddings, where they lie in the array. -/
theorem out_at (x : S256x768.Idx) (j : S4096x768.Idx) (hj0 : (j 0 : ℕ) = t.val * 512 + (o + (x 0 : ℕ)))
    (hj1 : (j 1 : ℕ) = x 1) : (loads (blk m c t) o p h0 h1 h2 h3).out x = (args m c).outArr j := by
  idx_vars x
  idx_vars j
  obtain rfl : j1 = x1 := Fin.ext hj1
  exact (loads_at m c t o p h0 h1 h2 h3 ho hp x0 j0 hj0).out_at _

end Cert.Array
-- ==== Proof.Final.lean ====
/- The four arrays after the run hold the specification's functions of the arguments. -/
module

public import proofs.«01_k».proof.Proof.Array

@[expose] public section

set_option maxRecDepth 16384

noncomputable section

namespace Cert.Final

open Idealize.ShloMosaic Idealize.ShloMosaic.TcCoe Idealize.SL.Sem
open Idealize.ShloMosaic.Pipeline (Dat)
open Cert.KernelIdeal Cert.KernelIdeal.Gen Cert.Blocks Cert.Half Cert.Array

variable (m : (ℓ : Loc nD τ sig) → Buf (Elt Ideal) ℓ) (c : Dev nD)

/-- The first array: the scores. -/
theorem final18 : (dats m 0 c).arrAt 18 cfg0.N = (args m c).logitsArr := by
  refine (dats m 0 c).arrAt_eq_of_covers 18 _ (by decide +kernel) fun t hf y => ?_
  blk_simp
  rw [after0_18]
  (unfold outsAt0; frame_out)
  canon_tiles x h
  · have e := fun j h0 h1 => (congrFun (hi m c t).logits' x).trans (logits_at m c t 256 16384 _ _ _ _ (le_refl _) rfl x j h0 h1)
    dsimp only [hi, loads, blk, Loads.logits] at e
    refine e _ ?_ ?_
    all_goals (blk_simp [idx t] <;> try omega)
  · have e := fun j h0 h1 => logits_at m c t 0 0 inb_S32768x128_S16384x128_0_0 inb_S512x768_S256x768_0_0 inb_S512x64_S256x64_0_0
      inb_S512x1_S256x1_0_0 (Nat.zero_le _) rfl x j h0 h1
    dsimp only [hi, loads, blk, Loads.logits] at e
    refine e _ ?_ ?_
    all_goals (blk_simp [idx t] <;> try omega)

/-- The second array: the policy. -/
theorem final19 : (dats m 0 c).arrAt 19 cfg0.N = (args m c).policyArr := by
  refine (dats m 0 c).arrAt_eq_of_covers 19 _ (by decide +kernel) fun t hf y => ?_
  blk_simp
  rw [after0_19]
  (unfold outsAt0; frame_out)
  canon_tiles x h
  · have e := fun j h0 h1 => (congrFun (hi m c t).policy' x).trans (policy_at m c t 256 16384 _ _ _ _ (le_refl _) rfl x j h0 h1)
    dsimp only [hi, loads, blk, Loads.logits, Loads.policy] at e
    refine e _ ?_ ?_
    all_goals (blk_simp [idx t] <;> try omega)
  · have e := fun j h0 h1 => policy_at m c t 0 0 inb_S32768x128_S16384x128_0_0 inb_S512x768_S256x768_0_0 inb_S512x64_S256x64_0_0
      inb_S512x1_S256x1_0_0 (Nat.zero_le _) rfl x j h0 h1
    dsimp only [hi, loads, blk, Loads.logits, Loads.policy] at e
    refine e _ ?_ ?_
    all_goals (blk_simp [idx t] <;> try omega)

/-- The third array: the candidates. -/
theorem final20 : (dats m 0 c).arrAt 20 cfg0.N = (args m c).choiceArr := by
  refine (dats m 0 c).arrAt_eq_of_covers 20 _ (by decide +kernel) fun t hf y => ?_
  blk_simp
  rw [after0_20]
  (unfold outsAt0; frame_out)
  canon_tiles x h
  · have e := fun j h0 => (congrFun (hi m c t).choice' x).trans (choice_at m c t 256 16384 _ _ _ _ (le_refl _) rfl x j h0)
    dsimp only [hi, loads, blk, Loads.logits, Loads.choice] at e
    refine e _ ?_
    all_goals (blk_simp [idx t] <;> try omega)
  · have e := fun j h0 => choice_at m c t 0 0 inb_S32768x128_S16384x128_0_0 inb_S512x768_S256x768_0_0 inb_S512x64_S256x64_0_0
      inb_S512x1_S256x1_0_0 (Nat.zero_le _) rfl x j h0
    dsimp only [hi, loads, blk, Loads.logits, Loads.choice] at e
    refine e _ ?_
    all_goals (blk_simp [idx t] <;> try omega)

/-- The fourth array: the embeddings. -/
theorem final21 : (dats m 0 c).arrAt 21 cfg0.N = (args m c).outArr := by
  refine (dats m 0 c).arrAt_eq_of_covers 21 _ (by decide +kernel) fun t hf y => ?_
  blk_simp
  rw [after0_21]
  (unfold outsAt0; frame_out)
  canon_tiles x h
  · have e := fun j h0 h1 => (congrFun (hi m c t).out' x).trans (out_at m c t 256 16384 _ _ _ _ (le_refl _) rfl x j h0 h1)
    dsimp only [hi, loads, blk, Loads.logits, Loads.out] at e
    refine e _ ?_ ?_
    all_goals (blk_simp [idx t] <;> try omega)
  · have e := fun j h0 h1 => out_at m c t 0 0 inb_S32768x128_S16384x128_0_0 inb_S512x768_S256x768_0_0 inb_S512x64_S256x64_0_0
      inb_S512x1_S256x1_0_0 (Nat.zero_le _) rfl x j h0 h1
    dsimp only [hi, loads, blk, Loads.logits, Loads.out] at e
    refine e _ ?_ ?_
    all_goals (blk_simp [idx t] <;> try omega)

end Cert.Final
-- ==== Proof.Values.lean ====
/- The reference's results, from the kernel's arguments, are the arrays that the kernel leaves. -/
module

public import proofs.«01_k».proof.Proof.Assemble
public import proofs.«01_k».proof.Proof.Final

@[expose] public section

set_option maxRecDepth 16384

noncomputable section

namespace Cert.Values

open Idealize.ShloMosaic Idealize.ShloMosaic.TcCoe Idealize.SL.Sem
open Cert.Spec Cert.Blocks Cert.Assemble Cert.KernelIdeal Cert.KernelIdeal.Gen

variable (m : (ℓ : Loc nD τ sig) → Buf (Elt Ideal) ℓ) (h : Cert.Pre_KernelIdeal_key_biases_zero m) (c : Dev nD)

include h

/-- The first result. -/
theorem logits : RefValue.logitsRes (args m c) = (dats m 0 c).arrAt 18 cfg0.N := by
  rw [RefValue.logits_eq (zero m c h), Final.final18]

/-- The second result. -/
theorem policy : RefValue.policyRes (args m c) = (dats m 0 c).arrAt 19 cfg0.N := by
  rw [RefValue.policy_eq (zero m c h), Final.final19]

/-- The third result. -/
theorem choice : RefValue.choiceRes (args m c) = (dats m 0 c).arrAt 20 cfg0.N := by
  rw [RefValue.choice_eq (zero m c h), Final.final20]

/-- The fourth result. -/
theorem out : RefValue.outRes (args m c) = (dats m 0 c).arrAt 21 cfg0.N := by
  rw [RefValue.out_eq (zero m c h), Final.final21]

end Cert.Values
-- ==== Proof.lean ====
/- The claims about the fused switch selection: the frames of the kernel and of the reference, the kernel's
   ideal program, and the equality of the four results with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_key_biases_zero
public import proofs.«01_k».proof.Proof.Gen.KernelIdeal.Value
public import proofs.«01_k».proof.Proof.Values
public import Idealize.ShloMosaic.Lib.Claim
public import Idealize.ShloMosaic.Lib.StableHlo.ReadAt
public import Idealize.ShloMosaic.Adequacy
public import Idealize.ShloMosaic.Init

@[expose] public section

set_option maxRecDepth 30000

noncomputable section

namespace Cert.Proof

open Idealize.ShloMosaic Idealize.ShloMosaic.TcCoe Idealize.SL.Sem
open Cert.Blocks Cert.Ref

/-- The reference terminates without fault, leaves its arguments as they were and ends with every counter at
zero. -/
theorem reference_frame : Cert.quiescent_ReferenceIdeal := by
  intro m g _
  hlo_run
  · intro c
    and_intros
    all_goals trivial
  · exact Idealize.ShloMosaic.sem_eq_zero_of_no_sems (by decide) r.2

set_option maxHeartbeats 3200000 in
/-- From one and the same arguments, with zero key biases, the kernel's four results are the
reference's. The reference's composed operations are, part by part, the named ones. -/
theorem algebraic : Cert.algebraic_KernelIdeal_ReferenceIdeal_pre_key_biases_zero := by
  pair_intro
  · run_from Cert.KernelIdeal.Value.run_blocks m g
  · hlo_run
    · exact Eq.trans (b := RefValue.logitsRes (args m _)) rfl (Values.logits m hpre _)
    · refine Eq.trans (b := RefValue.policyRes (args m _)) ?_ (Values.policy m hpre _)
      clear hagree hpre m' g g'
      dsimp only [RefValue.policyRes, RefValue.policy, RefValue.logits, RefValue.keys, args]
      simp -implicitDefEqProofs only [StableHlo.TRef.toBuf, StableHlo.TRef.ofBuf, cast_cast, cast_eq]
      clean_types
      dsimp only [policyR, normR, rawR, maskedR, bitsR, noneR, maskR, logitsR, keysR, queryR]
      rfl
    · refine Eq.trans (b := RefValue.choiceRes (args m _)) ?_ (Values.choice m hpre _)
      clear hagree hpre m' g g'
      dsimp only [RefValue.choiceRes, RefValue.choice, RefValue.policy, RefValue.logits, RefValue.keys, args]
      simp -implicitDefEqProofs only [StableHlo.TRef.toBuf, StableHlo.TRef.ofBuf, cast_cast, cast_eq]
      clean_types
      dsimp only [policyR, normR, rawR, maskedR, bitsR, noneR, maskR, logitsR, keysR, queryR,
        choiceR, scoreR]
      rfl
    · refine Eq.trans (b := RefValue.outRes (args m _)) ?_ (Values.out m hpre _)
      clear hagree hpre m' g g'
      dsimp only [RefValue.outRes, RefValue.out, RefValue.choice, RefValue.policy, RefValue.logits, RefValue.keys, args]
      simp -implicitDefEqProofs only [StableHlo.TRef.toBuf, StableHlo.TRef.ofBuf, cast_cast, cast_eq]
      clean_types
      dsimp only [policyR, normR, rawR, maskedR, bitsR, noneR, maskR, logitsR, keysR, queryR,
        choiceR, scoreR, outR, Ref.embR, takeR, insideR, wrapR]
      rfl

/-- All the claims. -/
theorem claim : Cert.Claim :=
  ⟨Cert.Kernel.Gen.facts, Cert.KernelIdeal.Gen.facts, Cert.ReferenceIdeal.Gen.facts,
    Cert.Pre_key_biases_zero.Gen.facts,
    fun m ρ _ => Cert.Kernel.Gen.frame m ρ,
    fun m ρ _ => Cert.KernelIdeal.Gen.frame m ρ,
    fun m ρ _ => Cert.KernelIdeal.Gen.frame m ρ,
    reference_frame,
    fun m g _ => reference_frame m g trivial,
    trivial,
    algebraic⟩

end Cert.Proof

end
